-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S256x1024 : Shape := ⟨2, ![256, 1024]⟩
abbrev S8x256 : Shape := ⟨2, ![8, 256]⟩
abbrev S8x256x256 : Shape := ⟨3, ![8, 256, 256]⟩
abbrev S1024x256 : Shape := ⟨2, ![1024, 256]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S8x256 : S_.BroadcastsInDim S8x256 (![] : Fin 0 → Fin S8x256.rank)
  reducesTo_S8x256_S_d0_1 : S8x256.ReducesTo [0, 1] S_
  bcast_S_S8x256x256 : S_.BroadcastsInDim S8x256x256 (![] : Fin 0 → Fin S8x256x256.rank)
  reducesTo_S8x256x256_S_d0_1_2 : S8x256x256.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8x256 .f32) (main_arg5 : FVec F S1024x256 .f32) (main_arg6 : FVec F S1024 .f32) (main_v13 : IVec S_ 1) (main_v16 : IVec S8x256x256 1) : IVec S_ 1 :=
  let main_c_5 : IVec S_ 1 := constantI S_ 1 1#1
  let main_v17 : IVec S_ 1 := (fun x v => Host.reduce IntOp.andi x v reducesTo_S8x256x256_S_d0_1_2 h_S_) main_v16 main_c_5
  let main_v18 : IVec S_ 1 := andi main_v13 main_v17
  let main_v19 : FVec F S8x256 .f32 := Host.absf main_arg4
  let main_cst_6 : FVec F S_ .f32 := constant S_ .f32 0x7F800000#32
  let main_v20 : FVec F S8x256 .f32 := broadcastInDim S8x256 ![] bcast_S_S8x256 main_cst_6
  let main_v21 : IVec S8x256 1 := cmpf .olt main_v19 main_v20
  let main_c_7 : IVec S_ 1 := constantI S_ 1 1#1
  let main_v22 : IVec S_ 1 := (fun x v => Host.reduce IntOp.andi x v reducesTo_S8x256_S_d0_1 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S256x1024 .f32) (main_arg2 : FVec F S8x256 .f32) (main_arg3 : FVec F S8x256x256 .f32) (main_arg4 : FVec F S8x256 .f32) (main_arg5 : FVec F S1024x256 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8x256x256 .f32 := Host.absf main_arg3
  let main_cst_4 : FVec F S_ .f32 := constant S_ .f32 0x7F800000#32
  let main_v15 : FVec F S8x256x256 .f32 := broadcastInDim S8x256x256 ![] bcast_S_S8x256x256 main_cst_4
  let main_v16 : IVec S8x256x256 1 := cmpf .olt main_v14 main_v15
  fn_part1 (F := F) main_arg4 main_arg5 main_arg6 main_v13 main_v16
-- ==== Kernel.lean ====
abbrev S4x2048x1024 : Shape := ⟨3, ![4, 2048, 1024]⟩
abbrev S256x1024 : Shape := ⟨2, ![256, 1024]⟩
abbrev S8x256 : Shape := ⟨2, ![8, 256]⟩
abbrev S8x256x256 : Shape := ⟨3, ![8, 256, 256]⟩
abbrev S1024x256 : Shape := ⟨2, ![1024, 256]⟩
abbrev S1024 : Shape := ⟨1, ![1024]⟩
abbrev S8192x1024 : Shape := ⟨2, ![8192, 1024]⟩
abbrev S2048x256 : Shape := ⟨2, ![2048, 256]⟩
abbrev S1024x1 : Shape := ⟨2, ![1024, 1]⟩
abbrev S1024x1024 : Shape := ⟨2, ![1024, 1024]⟩
abbrev S8x1024 : Shape := ⟨2, ![8, 1024]⟩
abbrev S1x1024 : Shape := ⟨2, ![1, 1024]⟩
abbrev S2048x1024 : Shape := ⟨2, ![2048, 1024]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S256x1024, .f32⟩
  | .hbm, ⟨2, _⟩ => ⟨S8x256, .f32⟩
  | .hbm, ⟨3, _⟩ => ⟨S8x256x256, .f32⟩
  | .hbm, ⟨4, _⟩ => ⟨S8x256, .f32⟩
  | .hbm, ⟨5, _⟩ => ⟨S1024x256, .f32⟩
  | .hbm, ⟨6, _⟩ => ⟨S1024, .f32⟩
  | .hbm, ⟨7, _⟩ => ⟨S8192x1024, .f32⟩
  | .hbm, ⟨8, _⟩ => ⟨S2048x256, .f32⟩
  | .hbm, ⟨9, _⟩ => ⟨S1024x1, .f32⟩
  | .hbm, ⟨10, _⟩ => ⟨S1024x256, .f32⟩
  | .hbm, ⟨11, _⟩ => ⟨S1024x256, .f32⟩
  | .hbm, ⟨12, _⟩ => ⟨S8192x1024, .f32⟩
  | .hbm, ⟨13, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S8x256, .f32⟩
  | .local _ .vmem, ⟨4, _⟩ => ⟨S2048x256, .f32⟩
  | .local _ .vmem, ⟨5, _⟩ => ⟨S8x256, .f32⟩
  | .local _ .vmem, ⟨6, _⟩ => ⟨S1024x256, .f32⟩
  | .local _ .vmem, ⟨7, _⟩ => ⟨S1024x1024, .f32⟩
  | .local _ .vmem, ⟨8, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S4x2048x1024 : Shape := ⟨3, ![4, 2048, 1024]⟩
abbrev S256x1024 : Shape := ⟨2, ![256, 1024]⟩
abbrev S8x256 : Shape := ⟨2, ![8, 256]⟩
abbrev S8x256x256 : Shape := ⟨3, ![8, 256, 256]⟩
abbrev S1024x256 : Shape := ⟨2, ![1024, 256]⟩
abbrev S1024 : Shape := ⟨1, ![1024]⟩
abbrev S4x2048x256 : Shape := ⟨3, ![4, 2048, 256]⟩
abbrev S_ : Shape := ⟨0, ![]⟩
abbrev S4x1x256 : Shape := ⟨3, ![4, 1, 256]⟩
abbrev S4x4x256 : Shape := ⟨3, ![4, 4, 256]⟩
abbrev S4x2043x256 : Shape := ⟨3, ![4, 2043, 256]⟩
abbrev S8172x256 : Shape := ⟨2, ![8172, 256]⟩
abbrev S256x8 : Shape := ⟨2, ![256, 8]⟩
abbrev S8172x8 : Shape := ⟨2, ![8172, 8]⟩
abbrev S8172 : Shape := ⟨1, ![8172]⟩
abbrev S8172x1 : Shape := ⟨2, ![8172, 1]⟩
abbrev S8172x2 : Shape := ⟨2, ![8172, 2]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x1024 : Shape := ⟨3, ![1, 1, 1024]⟩

abbrev nBuf : Space → Nat
  | .hbm => 218
  | .vmem => 0
  | .smem => 0
  | _ => 0

abbrev hbmTy0_0 (i : Nat) : BufTy := match i % 128 with
  | 0 => ⟨S4x2048x1024, .f32⟩
  | 1 => ⟨S256x1024, .f32⟩
  | 2 => ⟨S8x256, .f32⟩
  | 3 => ⟨S8x256x256, .f32⟩
  | 4 => ⟨S8x256, .f32⟩
  | 5 => ⟨S1024x256, .f32⟩
  | 6 => ⟨S1024, .f32⟩
  | 7 => ⟨S4x2048x256, .f32⟩
  | 8 => ⟨S_, .f32⟩
  | 9 => ⟨S4x2048x256, .f32⟩
  | 10 => ⟨S4x2048x256, .f32⟩
  | 11 => ⟨S4x2048x256, .f32⟩
  | 12 => ⟨S_, .f32⟩
  | 13 => ⟨S_, .f32⟩
  | 14 => ⟨S_, .f32⟩
  | 15 => ⟨S4x2048x256, .f32⟩
  | 16 => ⟨S4x2048x256, .f32⟩
  | 17 => ⟨S4x2048x256, .f32⟩
  | 18 => ⟨S4x2048x256, .f32⟩
  | 19 => ⟨S4x1x256, .f32⟩
  | 20 => ⟨S4x4x256, .f32⟩
  | 21 => ⟨S4x2043x256, .f32⟩
  | 22 => ⟨S8172x256, .f32⟩
  | 23 => ⟨S256x8, .f32⟩
  | 24 => ⟨S8172x8, .f32⟩
  | 25 => ⟨S_, .f32⟩
  | 26 => ⟨S8172x8, .f32⟩
  | 27 => ⟨S8172x8, .f32⟩
  | 28 => ⟨S_, .f32⟩
  | 29 => ⟨S8172, .f32⟩
  | 30 => ⟨S_, .f32⟩
  | 31 => ⟨S8172, .f32⟩
  | 32 => ⟨S8172, .f32⟩
  | 33 => ⟨S8172x1, .f32⟩
  | 34 => ⟨S8172x8, .f32⟩
  | 35 => ⟨S8172x8, .f32⟩
  | 36 => ⟨S8172x8, .f32⟩
  | 37 => ⟨S_, .f32⟩
  | 38 => ⟨S8172, .f32⟩
  | 39 => ⟨S8172x1, .f32⟩
  | 40 => ⟨S8172x8, .f32⟩
  | 41 => ⟨S8172x8, .f32⟩
  | 42 => ⟨S8172x2, .f32⟩
  | 43 => ⟨S8172x2, .i32⟩
  | 44 => ⟨S_, .f32⟩
  | 45 => ⟨S8172, .f32⟩
  | 46 => ⟨S8172x1, .f32⟩
  | 47 => ⟨S8172x2, .f32⟩
  | 48 => ⟨S8172x2, .f32⟩
  | 49 => ⟨S_, .f32⟩
  | 50 => ⟨S8172x256, .f32⟩
  | 51 => ⟨S_, .i32⟩
  | 52 => ⟨S8172x2, .i32⟩
  | 53 => ⟨S8172x2, .i1⟩
  | 54 => ⟨S8172x2, .f32⟩
  | 55 => ⟨S8172x2, .f32⟩
  | 56 => ⟨S_, .f32⟩
  | 57 => ⟨S8172, .f32⟩
  | 58 => ⟨S1x256x256, .f32⟩
  | 59 => ⟨S256x256, .f32⟩
  | 60 => ⟨S256x256, .f32⟩
  | 61 => ⟨S8172x256, .f32⟩
  | 62 => ⟨S1x256, .f32⟩
  | 63 => ⟨S256, .f32⟩
  | 64 => ⟨S1x256, .f32⟩
  | 65 => ⟨S8172x256, .f32⟩
  | 66 => ⟨S8172x256, .f32⟩
  | 67 => ⟨S8172x1, .f32⟩
  | 68 => ⟨S8172x256, .f32⟩
  | 69 => ⟨S8172x256, .f32⟩
  | 70 => ⟨S8172x256, .f32⟩
  | 71 => ⟨S_, .i32⟩
  | 72 => ⟨S8172x2, .i32⟩
  | 73 => ⟨S8172x2, .i1⟩
  | 74 => ⟨S8172x2, .f32⟩
  | 75 => ⟨S8172x2, .f32⟩
  | 76 => ⟨S_, .f32⟩
  | 77 => ⟨S8172, .f32⟩
  | 78 => ⟨S1x256x256, .f32⟩
  | 79 => ⟨S256x256, .f32⟩
  | 80 => ⟨S256x256, .f32⟩
  | 81 => ⟨S8172x256, .f32⟩
  | 82 => ⟨S1x256, .f32⟩
  | 83 => ⟨S256, .f32⟩
  | 84 => ⟨S1x256, .f32⟩
  | 85 => ⟨S8172x256, .f32⟩
  | 86 => ⟨S8172x256, .f32⟩
  | 87 => ⟨S8172x1, .f32⟩
  | 88 => ⟨S8172x256, .f32⟩
  | 89 => ⟨S8172x256, .f32⟩
  | 90 => ⟨S8172x256, .f32⟩
  | 91 => ⟨S_, .i32⟩
  | 92 => ⟨S8172x2, .i32⟩
  | 93 => ⟨S8172x2, .i1⟩
  | 94 => ⟨S8172x2, .f32⟩
  | 95 => ⟨S8172x2, .f32⟩
  | 96 => ⟨S_, .f32⟩
  | 97 => ⟨S8172, .f32⟩
  | 98 => ⟨S1x256x256, .f32⟩
  | 99 => ⟨S256x256, .f32⟩
  | 100 => ⟨S256x256, .f32⟩
  | 101 => ⟨S8172x256, .f32⟩
  | 102 => ⟨S1x256, .f32⟩
  | 103 => ⟨S256, .f32⟩
  | 104 => ⟨S1x256, .f32⟩
  | 105 => ⟨S8172x256, .f32⟩
  | 106 => ⟨S8172x256, .f32⟩
  | 107 => ⟨S8172x1, .f32⟩
  | 108 => ⟨S8172x256, .f32⟩
  | 109 => ⟨S8172x256, .f32⟩
  | 110 => ⟨S8172x256, .f32⟩
  | 111 => ⟨S_, .i32⟩
  | 112 => ⟨S8172x2, .i32⟩
  | 113 => ⟨S8172x2, .i1⟩
  | 114 => ⟨S8172x2, .f32⟩
  | 115 => ⟨S8172x2, .f32⟩
  | 116 => ⟨S_, .f32⟩
  | 117 => ⟨S8172, .f32⟩
  | 118 => ⟨S1x256x256, .f32⟩
  | 119 => ⟨S256x256, .f32⟩
  | 120 => ⟨S256x256, .f32⟩
  | 121 => ⟨S8172x256, .f32⟩
  | 122 => ⟨S1x256, .f32⟩
  | 123 => ⟨S256, .f32⟩
  | 124 => ⟨S1x256, .f32⟩
  | 125 => ⟨S8172x256, .f32⟩
  | 126 => ⟨S8172x256, .f32⟩
  | 127 => ⟨S8172x1, .f32⟩
  | _ => ⟨S4x2048x1024, .f32⟩

abbrev hbmTy0_1 (i : Nat) : BufTy := match i % 128 with
  | 0 => ⟨S8172x256, .f32⟩
  | 1 => ⟨S8172x256, .f32⟩
  | 2 => ⟨S8172x256, .f32⟩
  | 3 => ⟨S_, .i32⟩
  | 4 => ⟨S8172x2, .i32⟩
  | 5 => ⟨S8172x2, .i1⟩
  | 6 => ⟨S8172x2, .f32⟩
  | 7 => ⟨S8172x2, .f32⟩
  | 8 => ⟨S_, .f32⟩
  | 9 => ⟨S8172, .f32⟩
  | 10 => ⟨S1x256x256, .f32⟩
  | 11 => ⟨S256x256, .f32⟩
  | 12 => ⟨S256x256, .f32⟩
  | 13 => ⟨S8172x256, .f32⟩
  | 14 => ⟨S1x256, .f32⟩
  | 15 => ⟨S256, .f32⟩
  | 16 => ⟨S1x256, .f32⟩
  | 17 => ⟨S8172x256, .f32⟩
  | 18 => ⟨S8172x256, .f32⟩
  | 19 => ⟨S8172x1, .f32⟩
  | 20 => ⟨S8172x256, .f32⟩
  | 21 => ⟨S8172x256, .f32⟩
  | 22 => ⟨S8172x256, .f32⟩
  | 23 => ⟨S_, .i32⟩
  | 24 => ⟨S8172x2, .i32⟩
  | 25 => ⟨S8172x2, .i1⟩
  | 26 => ⟨S8172x2, .f32⟩
  | 27 => ⟨S8172x2, .f32⟩
  | 28 => ⟨S_, .f32⟩
  | 29 => ⟨S8172, .f32⟩
  | 30 => ⟨S1x256x256, .f32⟩
  | 31 => ⟨S256x256, .f32⟩
  | 32 => ⟨S256x256, .f32⟩
  | 33 => ⟨S8172x256, .f32⟩
  | 34 => ⟨S1x256, .f32⟩
  | 35 => ⟨S256, .f32⟩
  | 36 => ⟨S1x256, .f32⟩
  | 37 => ⟨S8172x256, .f32⟩
  | 38 => ⟨S8172x256, .f32⟩
  | 39 => ⟨S8172x1, .f32⟩
  | 40 => ⟨S8172x256, .f32⟩
  | 41 => ⟨S8172x256, .f32⟩
  | 42 => ⟨S8172x256, .f32⟩
  | 43 => ⟨S_, .i32⟩
  | 44 => ⟨S8172x2, .i32⟩
  | 45 => ⟨S8172x2, .i1⟩
  | 46 => ⟨S8172x2, .f32⟩
  | 47 => ⟨S8172x2, .f32⟩
  | 48 => ⟨S_, .f32⟩
  | 49 => ⟨S8172, .f32⟩
  | 50 => ⟨S1x256x256, .f32⟩
  | 51 => ⟨S256x256, .f32⟩
  | 52 => ⟨S256x256, .f32⟩
  | 53 => ⟨S8172x256, .f32⟩
  | 54 => ⟨S1x256, .f32⟩
  | 55 => ⟨S256, .f32⟩
  | 56 => ⟨S1x256, .f32⟩
  | 57 => ⟨S8172x256, .f32⟩
  | 58 => ⟨S8172x256, .f32⟩
  | 59 => ⟨S8172x1, .f32⟩
  | 60 => ⟨S8172x256, .f32⟩
  | 61 => ⟨S8172x256, .f32⟩
  | 62 => ⟨S8172x256, .f32⟩
  | 63 => ⟨S_, .i32⟩
  | 64 => ⟨S8172x2, .i32⟩
  | 65 => ⟨S8172x2, .i1⟩
  | 66 => ⟨S8172x2, .f32⟩
  | 67 => ⟨S8172x2, .f32⟩
  | 68 => ⟨S_, .f32⟩
  | 69 => ⟨S8172, .f32⟩
  | 70 => ⟨S1x256x256, .f32⟩
  | 71 => ⟨S256x256, .f32⟩
  | 72 => ⟨S256x256, .f32⟩
  | 73 => ⟨S8172x256, .f32⟩
  | 74 => ⟨S1x256, .f32⟩
  | 75 => ⟨S256, .f32⟩
  | 76 => ⟨S1x256, .f32⟩
  | 77 => ⟨S8172x256, .f32⟩
  | 78 => ⟨S8172x256, .f32⟩
  | 79 => ⟨S8172x1, .f32⟩
  | 80 => ⟨S8172x256, .f32⟩
  | 81 => ⟨S8172x256, .f32⟩
  | 82 => ⟨S8172x256, .f32⟩
  | 83 => ⟨S4x2043x256, .f32⟩
  | 84 => ⟨S4x2043x256, .f32⟩
  | 85 => ⟨S4x2048x256, .f32⟩
  | 86 => ⟨S4x2048x1024, .f32⟩
  | 87 => ⟨S1x1x1024, .f32⟩
  | 88 => ⟨S4x2048x1024, .f32⟩
  | 89 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_values : Ref sig .tc := ⟨.hbm, 42, rfl⟩
abbrev main_indices : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_10 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_12 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_13 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_14 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_15 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_16 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_17 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_c_18 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_19 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_c_20 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_21 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩

abbrev nD : Nat := 1
abbrev τ : Topo := Topo.v7x

variable {F : FTy → Type} [FloatOps F]
-- ==== Proof.Top2.lean ====
module

public import Idealize.ShloMosaic.Lib.SortFacts
public import Idealize.ShloMosaic.PureOps.Ideal
public import Idealize.ShloMosaic.PureOps.Reduce
public import Mathlib.Data.Real.Basic

@[expose] public section

noncomputable section

open Idealize.ShloMosaic

/-! # The two greatest of eight, ties to the lower index -/

namespace Cert.Top2

/-- Position `b` comes before position `c`: a greater value, or an equal one at a lower position. -/
def Ahead {n : Nat} {α : Type} [LinearOrder α] (x : Fin n → α) (b c : Fin n) : Prop :=
  x c < x b ∨ (x c = x b ∧ b < c)

/-- The comparator that puts greater values first. -/
def gtB {n : Nat} {α : Type} [LinearOrder α] (x : Fin n → α) (b c : Fin n) : Bool := decide (x c < x b)

section
variable {n : Nat} {α : Type} [LinearOrder α] (x : Fin n → α)

theorem Ahead.le {x : Fin n → α} {b c : Fin n} (h : Ahead x b c) : x c ≤ x b := by
  rcases h with h | ⟨h, -⟩
  · exact h.le
  · exact h.le

/-- Inserting a position below all those of an ordered list leaves the list ordered. -/
theorem ahead_insert (a : Fin n) (l : List (Fin n)) (hl : l.Pairwise (Ahead x)) (ha : ∀ c ∈ l, a < c) :
    (insertBefore (gtB x) a l).Pairwise (Ahead x) := by
  induction l with
  | nil => exact List.pairwise_singleton _ _
  | cons b l ih =>
    have hl' := List.pairwise_cons.mp hl
    unfold insertBefore
    split
    · rename_i h
      have hab : x a < x b := of_decide_eq_true h
      refine List.pairwise_cons.mpr ⟨fun c hc => ?_, ih hl'.2 fun c hc => ha c (List.mem_cons_of_mem _ hc)⟩
      rcases List.mem_cons.mp ((perm_insertBefore _ a l).mem_iff.mp hc) with rfl | hc'
      · exact Or.inl hab
      · exact hl'.1 c hc'
    · rename_i h
      have hab : x b ≤ x a := not_lt.mp fun h' => h (decide_eq_true h')
      refine List.pairwise_cons.mpr ⟨fun c hc => ?_, hl⟩
      have hca : x c ≤ x a := by
        rcases List.mem_cons.mp hc with rfl | hc'
        · exact hab
        · exact (hl'.1 c hc').le.trans hab
      rcases lt_or_eq_of_le hca with h1 | h1
      · exact Or.inl h1
      · exact Or.inr ⟨h1, ha c hc⟩

/-- The stable sort of an increasing list of positions is ordered. -/
theorem ahead_stableSort (l : List (Fin n)) (hl : l.Pairwise (· < ·)) : (stableSort (gtB x) l).Pairwise (Ahead x) := by
  induction l with
  | nil => exact List.Pairwise.nil
  | cons a l ih =>
    have hl' := List.pairwise_cons.mp hl
    unfold stableSort
    exact ahead_insert x a _ (ih hl'.2) fun c hc => hl'.1 c ((perm_stableSort _ l).mem_iff.mp hc)

/-- In the sorting permutation an earlier place's position is ahead of a later place's. -/
theorem ahead_sortedFrom (i j : Fin n) (hij : i < j) : Ahead x (sortedFrom (gtB x) i) (sortedFrom (gtB x) j) := by
  have hp : ∀ a b : Fin (sortPositions n (gtB x)).length, a < b →
      Ahead x ((sortPositions n (gtB x)).get a) ((sortPositions n (gtB x)).get b) :=
    List.pairwise_iff_get.mp (ahead_stableSort x (List.finRange n) (List.pairwise_lt_finRange n))
  unfold sortedFrom
  exact hp _ _ (by simp only [Fin.lt_def, Fin.val_cast]; exact hij)

end

variable {α : Type} [LinearOrder α] (x : Fin 8 → α)

/-- The position of the greatest of eight values. -/
def fst8 : Fin 8 := sortedFrom (gtB x) 0
/-- The position of the greatest of the other seven. -/
def snd8 : Fin 8 := sortedFrom (gtB x) 1

theorem snd8_ne_fst8 : snd8 x ≠ fst8 x := fun h => absurd (sortedFrom_injective _ h) (by decide)

/-- The first position is ahead of every other. -/
theorem fst8_ahead (e : Fin 8) (he : e ≠ fst8 x) : Ahead x (fst8 x) e := by
  obtain ⟨k, rfl⟩ := sortedFrom_surjective (gtB x) e
  have hk : k ≠ 0 := fun h => he (by rw [h]; rfl)
  exact ahead_sortedFrom x 0 k (Fin.pos_of_ne_zero hk)

/-- The second position is ahead of every one but the first. -/
theorem snd8_ahead (e : Fin 8) (h1 : e ≠ fst8 x) (h2 : e ≠ snd8 x) : Ahead x (snd8 x) e := by
  obtain ⟨k, rfl⟩ := sortedFrom_surjective (gtB x) e
  have hk0 : k ≠ 0 := fun h => h1 (by rw [h]; rfl)
  have hk1 : k ≠ 1 := fun h => h2 (by rw [h]; rfl)
  refine ahead_sortedFrom x 1 k ?_
  have h0 : k.val ≠ 0 := fun h => hk0 (Fin.ext h)
  have h1 : k.val ≠ 1 := fun h => hk1 (Fin.ext h)
  show 1 < k.val
  omega

theorem le_fst8 (e : Fin 8) : x e ≤ x (fst8 x) := by
  by_cases he : e = fst8 x
  · rw [he]
  · exact (fst8_ahead x e he).le

theorem le_snd8 (e : Fin 8) (h : e ≠ fst8 x) : x e ≤ x (snd8 x) := by
  by_cases he : e = snd8 x
  · rw [he]
  · exact (snd8_ahead x e h he).le

/-- Among the positions of the greatest value the first one is the lowest. -/
theorem fst8_le_of_eq (e : Fin 8) (h : x e = x (fst8 x)) : fst8 x ≤ e := by
  by_cases he : e = fst8 x
  · rw [he]
  · rcases fst8_ahead x e he with h' | ⟨-, h'⟩
    · exact absurd h h'.ne
    · exact h'.le

/-- Among the other positions of the second value the second one is the lowest. -/
theorem snd8_le_of_eq (e : Fin 8) (h1 : e ≠ fst8 x) (h : x e = x (snd8 x)) : snd8 x ≤ e := by
  by_cases he : e = snd8 x
  · rw [he]
  · rcases snd8_ahead x e h1 he with h' | ⟨-, h'⟩
    · exact absurd h h'.ne
    · exact h'.le

/-- Two rows compared alike have the same sorting comparator. -/
theorem gtB_congr {β : Type} [LinearOrder β] (y : Fin 8 → β) (h : ∀ b c, x c < x b ↔ y c < y b) : gtB x = gtB y := by
  funext b c
  exact decide_eq_decide.mpr (h b c)

/-- The signed minimum of eight words, from the greatest word. -/
theorem fold_minsi_eq (w : Fin 8 → BitVec 32) (i : Fin 8) (hi : ∀ e, (w i).toInt ≤ (w e).toInt) :
    (Finset.univ : Finset (Fin 8)).fold IntOp.minsi 2147483647#32 w = w i := by
  have key : ∀ s : Finset (Fin 8), (s.fold IntOp.minsi 2147483647#32 w).toInt
      = s.fold min (2147483647#32 : BitVec 32).toInt fun e => (w e).toInt := by
    intro s
    induction s using Finset.induction_on with
    | empty => rfl
    | insert a s ha ih =>
      rw [Finset.fold_insert ha, Finset.fold_insert ha, ← ih]
      unfold IntOp.minsi
      simp only [BitVec.slt, min_def]
      split <;> split <;> simp_all <;> omega
  apply BitVec.toInt_inj.mp
  rw [key]
  apply le_antisymm
  · exact (Finset.fold_min_le _).mpr (Or.inr ⟨i, Finset.mem_univ _, le_rfl⟩)
  · refine (Finset.le_fold_min _).mpr ⟨?_, fun e _ => hi e⟩
    have := BitVec.toInt_lt (x := w i)
    have h2 : (2147483647#32 : BitVec 32).toInt = 2147483647 := by decide
    rw [h2]; omega

/-- The least candidate among eight, where the others are given the word eight. -/
theorem fold_minsi_cand (p : Fin 8 → Prop) [DecidablePred p] (i : Fin 8) (hi : p i) (h : ∀ e, p e → i ≤ e) :
    (Finset.univ : Finset (Fin 8)).fold IntOp.minsi 2147483647#32 (fun e => if p e then BitVec.ofNat 32 e.val else 8#32)
      = BitVec.ofNat 32 i.val := by
  have hv : ∀ e : Fin 8, (BitVec.ofNat 32 e.val).toInt = e.val := by decide
  refine (fold_minsi_eq _ i fun e => ?_).trans (if_pos hi)
  rw [if_pos hi, hv]
  split
  · rename_i he
    rw [hv]
    exact_mod_cast Fin.le_def.mp (h e he)
  · have h8 : (8#32 : BitVec 32).toInt = 8 := by decide
    rw [h8]; omega

/-- Words of two positions among eight are equal exactly when the positions are. -/
theorem ofNat_eq_iff (a b : Fin 8) : BitVec.ofNat 32 a.val = BitVec.ofNat 32 b.val ↔ a = b := by
  revert a b; decide

end Cert.Top2

end
-- ==== Proof.Spec.lean ====
module

public import proofs.«01_k».proof.Proof.Top2

@[expose] public section

noncomputable section

open Idealize.ShloMosaic Cert.Top2

/-! # The layer over the reals, and how extended reals that are reals compute -/

namespace Cert.Spec

/-- The error function on a real, as a real. -/
def erfR (r : ℝ) : ℝ := (Ideal.erf (r : EReal)).toReal

/-- The error function of a real is the coercion of a real. -/
theorem erf_real (r : ℝ) : Ideal.erf (r : EReal) = ((erfR r : ℝ) : EReal) := by
  unfold erfR
  rw [Ideal.erf_coe, EReal.toReal_coe]

/-- The exact gelu of a real. -/
def geluR (v : ℝ) : ℝ := (1 / 2 * v) * (1 + erfR (v * (Real.sqrt 2)⁻¹))

/-- The hidden vector of one token: gelu of the down projection. -/
def hid (X : Fin 1024 → ℝ) (D : Fin 256 → Fin 1024 → ℝ) (r : Fin 256) : ℝ := geluR (∑ k, D r k * X k)

/-- The gate logits of one token. -/
def logit (h : Fin 256 → ℝ) (G : Fin 8 → Fin 256 → ℝ) (e : Fin 8) : ℝ := ∑ r, G e r * h r

/-- The exponentials of the logits less the greatest. -/
def U (l : Fin 8 → ℝ) (e : Fin 8) : ℝ := Real.exp (l e - l (fst8 l))

/-- The weight of each expert: the two greatest entries over their sum, zero elsewhere. -/
def wgt (u : Fin 8 → ℝ) (e : Fin 8) : ℝ :=
  ((if e = fst8 u then u (fst8 u) else 0) + (if e = snd8 u then u (snd8 u) else 0)) / (u (fst8 u) + u (snd8 u))

/-- The expert products without their bias. -/
def expert (h : Fin 256 → ℝ) (W : Fin 8 → Fin 256 → Fin 256 → ℝ) (e : Fin 8) (r : Fin 256) : ℝ := ∑ q, W e r q * h q

/-- One token after the mixture: hidden vector plus the weighted biases plus the weighted expert products. -/
def tok (h : Fin 256 → ℝ) (w : Fin 8 → ℝ) (W : Fin 8 → Fin 256 → Fin 256 → ℝ) (B : Fin 8 → Fin 256 → ℝ) (r : Fin 256) : ℝ :=
  h r + ((∑ e, B e r * w e) + ∑ e, expert h W e r * w e)

theorem U_pos (l : Fin 8 → ℝ) (e : Fin 8) : 0 < U l e := Real.exp_pos _

/-- A finite sum of real products is the coercion of the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of products of reals. -/
theorem sum_mul_coe {ι : Type} [Fintype ι] {a b : ι → EReal} {f g : ι → ℝ} (ha : ∀ k, a k = ((f k : ℝ) : EReal))
    (hb : ∀ k, b k = ((g k : ℝ) : EReal)) : ∑ k, a k * b k = ((∑ k, f k * g k : ℝ) : EReal) := by
  rw [← coe_sum]
  refine Finset.sum_congr rfl fun k _ => ?_
  rw [ha, hb, EReal.coe_mul]

/-- The quotient of reals by a real that is not zero. -/
theorem div_real (a b : ℝ) (h : b ≠ 0) : Ideal.div (a : EReal) (b : EReal) = ((a / b : ℝ) : EReal) := by
  rw [Ideal.div_coe h, ← EReal.coe_mul, mul_one_div]

/-- The fold of `max` is the entry no other exceeds. -/
theorem fold_max_eq {α : Type} [LinearOrder α] {n : Nat} (z : α) (x : Fin n → α) (i : Fin n) (hz : z ≤ x i) (hi : ∀ e, x e ≤ x i) :
    (Finset.univ : Finset (Fin n)).fold max z x = x i := by
  apply le_antisymm
  · exact (Finset.fold_max_le _).mpr ⟨hz, fun e _ => hi e⟩
  · exact (Finset.le_fold_max _).mpr (Or.inr ⟨i, Finset.mem_univ _, le_rfl⟩)

/-- The pattern of one half. -/
theorem ofBits_half : Ideal.ofBits .f32 0x3F000000#32 = ((1 / 2 : ℝ) : EReal) := by
  simp [Ideal.ofBits, Ideal.ieee, ← EReal.coe_one, ← EReal.coe_mul]; norm_num

/-- The pattern of two. -/
theorem ofBits_two : Ideal.ofBits .f32 0x40000000#32 = ((2 : ℝ) : EReal) := by
  simp [Ideal.ofBits, Ideal.ieee, ← EReal.coe_one, ← EReal.coe_mul]; norm_num

/-- The pattern of minus infinity. -/
theorem ofBits_bot : Ideal.ofBits .f32 0xFF800000#32 = (⊥ : EReal) := by
  simp [Ideal.ofBits, Ideal.ieee]

/-- The seven argument arrays as real arrays. -/
structure Args where
  X : Fin 4 → Fin 2048 → Fin 1024 → ℝ
  D : Fin 256 → Fin 1024 → ℝ
  G : Fin 8 → Fin 256 → ℝ
  W : Fin 8 → Fin 256 → Fin 256 → ℝ
  B : Fin 8 → Fin 256 → ℝ
  Up : Fin 1024 → Fin 256 → ℝ
  gam : Fin 1024 → ℝ

/-- The hidden vector of token `s` of sequence `b`. -/
def Args.h (A : Args) (b : Fin 4) (s : Fin 2048) : Fin 256 → ℝ := hid (A.X b s) A.D

/-- The shifted exponentials of token `s` of sequence `b`. -/
def Args.u (A : Args) (b : Fin 4) (s : Fin 2048) : Fin 8 → ℝ := U (logit (A.h b s) A.G)

/-- The expert weights of token `s` of sequence `b`: none on the five leading tokens. -/
def Args.w (A : Args) (b : Fin 4) (s : Fin 2048) (e : Fin 8) : ℝ := if 5 ≤ s.val then wgt (A.u b s) e else 0

/-- The layer's result over the reals, as the kernel brackets it. -/
def Args.out (A : Args) (b : Fin 4) (s : Fin 2048) (o : Fin 1024) : ℝ :=
  ∑ r, tok (A.h b s) (A.w b s) A.W A.B r * (A.Up o r * A.gam o)

/-- The sequence of row `n` of the flattened input. -/
def seqOf (n : Fin 8192) : Fin 4 := ⟨n.val / 2048, by omega⟩

/-- The token of row `n` of the flattened input within its sequence. -/
def tokOf (n : Fin 8192) : Fin 2048 := ⟨n.val % 2048, by omega⟩

/-- The row of the flattened input that block `i` holds at `j`. -/
def rowOf (i : Fin 8) (j : Fin 1024) : Fin 8192 := ⟨i.val * 1024 + j.val, by omega⟩

end Cert.Spec

end
-- ==== Proof.Finite.lean ====
module

public import proofs.«01_k».proof.Pre_finite
public import proofs.«01_k».proof.Proof.Spec
public import Idealize.ShloMosaic.Lib.Pointwise
public import Idealize.ShloMosaic.Lib.ReduceAll

@[expose] public section

set_option maxRecDepth 16384

noncomputable section

open Idealize.ShloMosaic

/-! # What the precondition says: every entry of every argument is a real -/

namespace Cert.Pre_finite.Value

open Cert.Pre_finite

/-- The side conditions of the precondition's operations. -/
theorem facts : Facts where
  bcast_S_S4x2048x1024 := by decide
  reducesTo_S4x2048x1024_S_d0_1_2 := by decide
  h_S_ := by decide
  bcast_S_S256x1024 := by decide
  reducesTo_S256x1024_S_d0_1 := by decide
  bcast_S_S8x256 := by decide
  reducesTo_S8x256_S_d0_1 := by decide
  bcast_S_S8x256x256 := by decide
  reducesTo_S8x256x256_S_d0_1_2 := by decide
  bcast_S_S1024x256 := by decide
  reducesTo_S1024x256_S_d0_1 := by decide
  bcast_S_S1024 := by decide
  reducesTo_S1024_S_d0 := by decide

/-- An extended real whose magnitude is below infinity is a real. -/
theorem real_of_abs_lt (x : EReal) (h : max x (-x) < ⊤) : x = ((x.toReal : ℝ) : EReal) := by
  refine (EReal.coe_toReal (fun e => ?_) (fun e => ?_)).symm
  · rw [e] at h
    simp at h
  · rw [e] at h
    simp at h

/-- The single-precision word of infinity is infinity. -/
theorem ofBits_top : Ideal.ofBits .f32 0x7F800000#32 = (⊤ : EReal) := by
  simp [Ideal.ofBits, Ideal.ieee]

/-- One comparison that holds says that its entry is a real. -/
theorem real_of_cmp (x : Ideal .f32) (h : FloatOps.cmpf .olt (FloatOps.hostAbsf x) (FloatOps.ofBits .f32 0x7F800000#32) = 1#1) :
    (x : EReal) = (((x : EReal).toReal : ℝ) : EReal) := by
  refine real_of_abs_lt x ?_
  have h' : BitVec.ofBool (decide (max (x : EReal) (-x) < Ideal.ofBits .f32 0x7F800000#32)) = 1#1 := h
  rw [ofBits_top] at h'
  by_contra hn
  rw [decide_eq_false hn] at h'
  exact absurd h' (by decide)

instance : Facts := facts

/-- A conjunction of two bits holds when both do. -/
theorem andi_both {a b : BitVec 1} : IntOp.andi a b = 1#1 ↔ a = 1#1 ∧ b = 1#1 := by
  revert a b
  decide

/-- Under the precondition every entry of every argument is a real. -/
theorem all_real (a0 : FVec Ideal S4x2048x1024 .f32) (a1 : FVec Ideal S256x1024 .f32) (a2 : FVec Ideal S8x256 .f32) (a3 : FVec Ideal S8x256x256 .f32)
    (a4 : FVec Ideal S8x256 .f32) (a5 : FVec Ideal S1024x256 .f32) (a6 : FVec Ideal S1024 .f32)
    (h : fn (F := Ideal) a0 a1 a2 a3 a4 a5 a6 (Shape.Idx.first Facts.h_S_) = 1#1) :
    (∀ i, a0 i = (((a0 i).toReal : ℝ) : EReal)) ∧ (∀ i, a1 i = (((a1 i).toReal : ℝ) : EReal)) ∧ (∀ i, a2 i = (((a2 i).toReal : ℝ) : EReal))
      ∧ (∀ i, a3 i = (((a3 i).toReal : ℝ) : EReal)) ∧ (∀ i, a4 i = (((a4 i).toReal : ℝ) : EReal)) ∧ (∀ i, a5 i = (((a5 i).toReal : ℝ) : EReal))
      ∧ (∀ i, a6 i = (((a6 i).toReal : ℝ) : EReal)) := by
  dsimp only [fn, fn_part1] at h
  simp only [andi, andi_both] at h
  obtain ⟨⟨⟨⟨⟨⟨h0, h1⟩, h2⟩, h3⟩, h4⟩, h5⟩, h6⟩ := h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i), fun i => real_of_cmp _ (Host.reduce_andi_all _ _ _ _ _ h3 i),
    fun i => real_of_cmp _ (Host.reduce_andi_all _ _ _ _ _ h4 i), fun i => real_of_cmp _ (Host.reduce_andi_all _ _ _ _ _ h5 i),
    fun i => real_of_cmp _ (Host.reduce_andi_all _ _ _ _ _ h6 i)⟩

end Cert.Pre_finite.Value

end
-- ==== Proof.KHid.lean ====
module

public import proofs.«01_k».proof.Proof.Spec
public import proofs.«01_k».proof.Proof.Gen.KernelIdeal.Skeleton
public import Idealize.ShloMosaic.Lib.Pointwise
public import Idealize.ShloMosaic.PureOps.IdealRules

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec Cert.Top2

/-- The named constant is the real inverse root of two. -/
theorem sqrt_half : Named.named (F := Ideal) κ "sqrt_half" (φ := .f32) 0x3F3504F3#32 = (((Real.sqrt 2)⁻¹ : ℝ) : EReal) :=
  IdealRules.named_const.ideal_named_scalar _ _ _ _ rfl

/-- The hidden block: entry `(r, j)` is the hidden vector of token `j` at `r`. -/
theorem pay2_at (x : Vec Ideal S1024x1024 .f32) (d : Vec Ideal S256x1024 .f32) (X : Fin 1024 → Fin 1024 → ℝ) (D : Fin 256 → Fin 1024 → ℝ)
    (hx : ∀ a b, x (ix2 a b) = ((X a b : ℝ) : EReal)) (hd : ∀ a b, d (ix2 a b) = ((D a b : ℝ) : EReal)) (r : Fin 256) (j : Fin 1024) :
    k0_pay2 (F := Ideal) x d (ix2 r j) = ((hid (X j) D r : ℝ) : EReal) := by
  have hs : ∑ k, d (ix2 r k) * x (ix2 j k) = ((∑ k, D r k * X j k : ℝ) : EReal) := sum_mul_coe (fun k => hd r k) fun k => hx j k
  pointwise [k0_pay2]
  rw [hs, sqrt_half, ofBits_half]
  show _ * (1 + Ideal.erf _) = _
  rw [← EReal.coe_mul, ← EReal.coe_mul, erf_real, ← EReal.coe_one, ← EReal.coe_add, ← EReal.coe_mul]
  rfl

/-- The exponentials of one block, from the hidden block. -/
theorem pay3_at (x : Vec Ideal S1024x1024 .f32) (d : Vec Ideal S256x1024 .f32) (g : Vec Ideal S8x256 .f32) (H : Fin 1024 → Fin 256 → ℝ)
    (G : Fin 8 → Fin 256 → ℝ) (hH : ∀ r j, k0_pay2 (F := Ideal) x d (ix2 r j) = ((H j r : ℝ) : EReal))
    (hg : ∀ a b, g (ix2 a b) = ((G a b : ℝ) : EReal)) (e : Fin 8) (j : Fin 1024) :
    k0_pay3 (F := Ideal) x d g (ix2 e j) = ((U (logit (H j) G) e : ℝ) : EReal) := by
  have hs : ∀ e : Fin 8, ∑ k, g (ix2 e k) * k0_pay2 (F := Ideal) x d (ix2 k j) = ((logit (H j) G e : ℝ) : EReal) := fun e =>
    sum_mul_coe (fun k => hg e k) fun k => hH k j
  pointwise [k0_pay3]
  simp only [hs]
  rw [fold_max_eq _ (fun e => ((logit (H j) G e : ℝ) : EReal)) (fst8 (logit (H j) G)) (by rw [ofBits_bot]; exact bot_le)
    (fun e => EReal.coe_le_coe_iff.mpr (le_fst8 _ e)), ← EReal.coe_sub, ← EReal.coe_one, div_real _ _ one_ne_zero, div_one]
  rfl

/-- Two positions among eight compared as words. -/
theorem cmpi_eq_pos (a b : Fin 8) : IntOp.cmpi CmpIPredicate.eq (BitVec.ofNat 32 a.val) (BitVec.ofNat 32 b.val) = BitVec.ofBool (decide (a = b)) := by
  revert a b; decide

/-- A choice on a decided proposition. -/
theorem select_ofBool {α : Type} (p : Prop) [Decidable p] (a b : α) : Scalar.select (BitVec.ofBool (decide p)) a b = if p then a else b := by
  by_cases h : p <;> simp [h, Scalar.select]

set_option maxHeartbeats 1000000 in
/-- The column mask of block `i`: set from the sixth token of each sequence on. -/
theorem mask_eq (i : Fin 8) (j : Fin 1024) : IntOp.cmpi CmpIPredicate.sge
        (Scalar.select
          (IntOp.andi
            (IntOp.xori
              (IntOp.cmpi CmpIPredicate.slt
                (IntOp.remsi ArithUnit.vector
                  (IntOp.addi (BitVec.ofNat 32 j.val) (Scalar.muli (BitVec.ofNat 32 i.val) 1024#32))
                  (Scalar.select (Scalar.cmpi CmpIPredicate.eq 2048#32 0#32) 1#32 2048#32))
                0#32)
              (Scalar.cmpi CmpIPredicate.slt (Scalar.select (Scalar.cmpi CmpIPredicate.eq 2048#32 0#32) 1#32 2048#32)
                0#32))
            (IntOp.cmpi CmpIPredicate.ne
              (IntOp.remsi ArithUnit.vector (IntOp.addi (BitVec.ofNat 32 j.val) (Scalar.muli (BitVec.ofNat 32 i.val) 1024#32))
                (Scalar.select (Scalar.cmpi CmpIPredicate.eq 2048#32 0#32) 1#32 2048#32))
              0#32))
          (IntOp.addi
            (IntOp.remsi ArithUnit.vector (IntOp.addi (BitVec.ofNat 32 j.val) (Scalar.muli (BitVec.ofNat 32 i.val) 1024#32))
              (Scalar.select (Scalar.cmpi CmpIPredicate.eq 2048#32 0#32) 1#32 2048#32))
            (Scalar.select (Scalar.cmpi CmpIPredicate.eq 2048#32 0#32) 1#32 2048#32))
          (IntOp.remsi ArithUnit.vector (IntOp.addi (BitVec.ofNat 32 j.val) (Scalar.muli (BitVec.ofNat 32 i.val) 1024#32))
            (Scalar.select (Scalar.cmpi CmpIPredicate.eq 2048#32 0#32) 1#32 2048#32)))
        5#32 = BitVec.ofBool (decide (5 ≤ (i.val * 1024 + j.val) % 2048)) := by
  revert i j
  decide +kernel

section
variable (x : Vec Ideal S1024x1024 .f32) (d : Vec Ideal S256x1024 .f32) (g : Vec Ideal S8x256 .f32) (u : Fin 1024 → Fin 8 → ℝ)
  (hu : ∀ e j, k0_pay3 (F := Ideal) x d g (ix2 e j) = ((u j e : ℝ) : EReal))
include hu

/-- The greatest exponential of each token. -/
theorem pay4_at (z : Fin 1) (j : Fin 1024) : k0_pay4 (F := Ideal) x d g (ix2 z j) = ((u j (fst8 (u j)) : ℝ) : EReal) := by
  pointwise [k0_pay4]
  simp only [hu]
  exact fold_max_eq _ (fun e => ((u j e : ℝ) : EReal)) (fst8 (u j)) (by rw [ofBits_bot]; exact bot_le)
    (fun e => EReal.coe_le_coe_iff.mpr (le_fst8 _ e))

/-- The mask of the first choice. -/
theorem pay5_at (e : Fin 8) (j : Fin 1024) : k0_pay5 (F := Ideal) x d g (ix2 e j) = BitVec.ofBool (decide (e = fst8 (u j))) := by
  have h4 := pay4_at x d g u hu
  pointwise [k0_pay5, hu, h4]
  simp only [EReal.coe_eq_coe_iff]
  rw [fold_minsi_cand (fun e => u j e = u j (fst8 (u j))) (fst8 (u j)) rfl fun e => fst8_le_of_eq (u j) e]
  exact cmpi_eq_pos _ _

/-- The exponentials with the first choice overwritten. -/
theorem pay6_at (e : Fin 8) (j : Fin 1024) :
    k0_pay6 (F := Ideal) x d g (ix2 e j) = if e = fst8 (u j) then (⊥ : EReal) else ((u j e : ℝ) : EReal) := by
  have h5 := pay5_at x d g u hu
  pointwise [k0_pay6, hu, h5]
  rw [ofBits_bot]

/-- The second greatest exponential of each token. -/
theorem pay7_at (z : Fin 1) (j : Fin 1024) : k0_pay7 (F := Ideal) x d g (ix2 z j) = ((u j (snd8 (u j)) : ℝ) : EReal) := by
  have h6 := pay6_at x d g u hu
  pointwise [k0_pay7]
  simp only [h6]
  refine (fold_max_eq _ (fun e => if e = fst8 (u j) then (⊥ : EReal) else ((u j e : ℝ) : EReal)) (snd8 (u j)) ?_ ?_).trans ?_
  · rw [ofBits_bot]; exact bot_le
  · intro e
    rw [if_neg (snd8_ne_fst8 (u j))]
    split
    · exact bot_le
    · exact EReal.coe_le_coe_iff.mpr (le_snd8 _ e (by assumption))
  · exact if_neg (snd8_ne_fst8 (u j))

/-- The candidates for the second choice. -/
theorem pay8_at (e : Fin 8) (j : Fin 1024) : k0_pay8 (F := Ideal) x d g (ix2 e j)
    = if e ≠ fst8 (u j) ∧ u j e = u j (snd8 (u j)) then BitVec.ofNat 32 e.val else 8#32 := by
  have h6 := pay6_at x d g u hu
  have h7 := pay7_at x d g u hu
  pointwise [k0_pay8, h6, h7]
  by_cases h : e = fst8 (u j)
  · rw [if_pos h, if_neg (EReal.bot_ne_coe _), if_neg (fun h' => h'.1 h)]
  · rw [if_neg h]
    simp only [EReal.coe_eq_coe_iff, ne_eq, h, not_false_eq_true, true_and]

/-- The weights of one block: the two greatest over their sum, and zero on the five leading tokens of a sequence. -/
theorem pay9_at (hpos : ∀ j e, 0 < u j e) (i : Fin 8) (e : Fin 8) (j : Fin 1024) :
    k0_pay9 (F := Ideal) (BitVec.ofNat 32 i.val) (iota .tc S8x1024 32 [0] iota_S8x1024_d0_w32) (k0_pay4 (F := Ideal) x d g) (k0_pay5 (F := Ideal) x d g)
      (k0_pay7 (F := Ideal) x d g) (k0_pay8 (F := Ideal) x d g) (ix2 e j)
    = (((if 5 ≤ (i.val * 1024 + j.val) % 2048 then wgt (u j) e else 0 : ℝ)) : EReal) := by
  have h4 := pay4_at x d g u hu
  have h5 := pay5_at x d g u hu
  have h7 := pay7_at x d g u hu
  have h8 := pay8_at x d g u hu
  pointwise [k0_pay9, h4, h5, h7, h8]
  rw [fold_minsi_cand (fun e => e ≠ fst8 (u j) ∧ u j e = u j (snd8 (u j))) (snd8 (u j)) ⟨snd8_ne_fst8 _, rfl⟩
    fun e he => snd8_le_of_eq (u j) e he.1 he.2, cmpi_eq_pos, ← EReal.coe_add]
  refine (congrArg (fun b => Scalar.select b _ _) (mask_eq i j)).trans ?_
  rw [select_ofBool, select_ofBool]
  by_cases hm : 5 ≤ (i.val * 1024 + j.val) % 2048
  · rw [if_pos hm, if_pos hm]
    have hp : u j (fst8 (u j)) + u j (snd8 (u j)) ≠ 0 := (add_pos (hpos _ _) (hpos _ _)).ne'
    unfold wgt
    rw [← div_real _ _ hp]
    congr 1
    rw [EReal.coe_add]
    congr 1 <;> split <;> rfl
  · rw [if_neg hm, if_neg hm, EReal.coe_zero]

end

end Cert.KernelIdeal.Value

end
-- ==== Proof.KOut.lean ====
module

public import proofs.«01_k».proof.Proof.KHid

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec Cert.Top2

/-- The stacked expert products of one block. -/
theorem pay10_at (h : FVec Ideal S256x1024 .f32) (ws : Vec Ideal S2048x256 .f32) (H : Fin 1024 → Fin 256 → ℝ) (WS : Fin 2048 → Fin 256 → ℝ)
    (hh : ∀ r j, h (ix2 r j) = ((H j r : ℝ) : EReal)) (hw : ∀ a q, ws (ix2 a q) = ((WS a q : ℝ) : EReal)) (a : Fin 2048) (j : Fin 1024) :
    k0_pay10 (F := Ideal) h ws (ix2 a j) = ((∑ q, WS a q * H j q : ℝ) : EReal) := by
  pointwise [k0_pay10]
  exact sum_mul_coe (fun q => hw a q) fun q => hh q j

/-- The block that is stored: entry `(j, o)` is the up projection of token `j` at output `o`. -/
theorem pay1_at (h : FVec Ideal S256x1024 .f32) (wt : FVec Ideal S8x1024 .f32) (gt : FVec Ideal S2048x1024 .f32) (be : Vec Ideal S8x256 .f32)
    (wug : Vec Ideal S1024x256 .f32) (H : Fin 1024 → Fin 256 → ℝ) (w : Fin 1024 → Fin 8 → ℝ) (Q : Fin 1024 → Fin 2048 → ℝ) (B : Fin 8 → Fin 256 → ℝ)
    (WG : Fin 1024 → Fin 256 → ℝ)
    (hh : ∀ r j, h (ix2 r j) = ((H j r : ℝ) : EReal)) (hw : ∀ e j, wt (ix2 e j) = ((w j e : ℝ) : EReal))
    (hq : ∀ a j, gt (ix2 a j) = ((Q j a : ℝ) : EReal)) (hb : ∀ e r, be (ix2 e r) = ((B e r : ℝ) : EReal))
    (hu : ∀ o r, wug (ix2 o r) = ((WG o r : ℝ) : EReal)) (j o : Fin 1024) :
    k0_pay1 (F := Ideal) h wt gt be wug (ix2 j o)
      = ((∑ r : Fin 256, (H j r + ((∑ e, B e r * w j e) + ∑ e : Fin 8, Q j ⟨e.val * 256 + r.val, by omega⟩ * w j e)) * WG o r : ℝ) : EReal) := by
  have hs : ∀ r : Fin 256, ∑ e, be (ix2 e r) * wt (ix2 e j) = ((∑ e, B e r * w j e : ℝ) : EReal) := fun r =>
    sum_mul_coe (fun e => hb e r) fun e => hw e j
  pointwise [k0_pay1]
  refine sum_mul_coe (fun r => ?_) fun r => hu o r
  rw [hs, hh]
  simp only [hw, hq, ← EReal.coe_mul, ← EReal.coe_add]
  rw [EReal.coe_eq_coe_iff, Fin.sum_univ_eight (fun e : Fin 8 => Q j ⟨e.val * 256 + r.val, by omega⟩ * w j e)]
  have hz : ∀ (k : Fin 8) (n : Nat) (hn : n < 2048), n = k.val * 256 + r.val →
      Q j ⟨k.val * 256 + r.val, by omega⟩ = Q j ⟨n, hn⟩ := fun k n hn h => by subst h; rfl
  rw [hz 0 r.val (by omega) (by simp), hz 1 (256 + r.val) (by omega) (by simp), hz 2 (512 + r.val) (by omega) (by simp),
    hz 3 (768 + r.val) (by omega) (by simp), hz 4 (1024 + r.val) (by omega) (by simp), hz 5 (1280 + r.val) (by omega) (by simp),
    hz 6 (1536 + r.val) (by omega) (by simp), hz 7 (1792 + r.val) (by omega) (by simp)]
  ring

/-- What the body stores at block `i`, from its staged blocks: the layer's result at the rows of that block. -/
theorem block_at (A : Args) (i : Fin 8) (x : Vec Ideal S1024x1024 .f32) (d : Vec Ideal S256x1024 .f32) (g : Vec Ideal S8x256 .f32)
    (ws : Vec Ideal S2048x256 .f32) (be : Vec Ideal S8x256 .f32) (wug : Vec Ideal S1024x256 .f32)
    (hx : ∀ (j k : Fin 1024), x (ix2 j k) = ((A.X (seqOf (rowOf i j)) (tokOf (rowOf i j)) k : ℝ) : EReal))
    (hd : ∀ a b, d (ix2 a b) = ((A.D a b : ℝ) : EReal)) (hg : ∀ a b, g (ix2 a b) = ((A.G a b : ℝ) : EReal))
    (hws : ∀ (a : Fin 2048) (q : Fin 256), ws (ix2 a q) = ((A.W ⟨a.val / 256, by omega⟩ ⟨a.val % 256, by omega⟩ q : ℝ) : EReal))
    (hb : ∀ a b, be (ix2 a b) = ((A.B a b : ℝ) : EReal)) (hu : ∀ o r, wug (ix2 o r) = ((A.Up o r * A.gam o : ℝ) : EReal))
    (j o : Fin 1024) :
    k0_pay1 (F := Ideal) (k0_pay2 (F := Ideal) x d)
      (k0_pay9 (F := Ideal) (BitVec.ofNat 32 i.val) (iota .tc S8x1024 32 [0] iota_S8x1024_d0_w32) (k0_pay4 (F := Ideal) x d g)
        (k0_pay5 (F := Ideal) x d g) (k0_pay7 (F := Ideal) x d g) (k0_pay8 (F := Ideal) x d g))
      (k0_pay10 (F := Ideal) (k0_pay2 (F := Ideal) x d) ws) be wug (ix2 j o)
      = ((A.out (seqOf (rowOf i j)) (tokOf (rowOf i j)) o : ℝ) : EReal) := by
  have h2 := pay2_at x d (fun j => A.X (seqOf (rowOf i j)) (tokOf (rowOf i j))) A.D hx hd
  have h3 := pay3_at x d g (fun j => A.h (seqOf (rowOf i j)) (tokOf (rowOf i j))) A.G h2 hg
  have h9 := pay9_at x d g (fun j => A.u (seqOf (rowOf i j)) (tokOf (rowOf i j))) h3 (fun _ _ => U_pos _ _) i
  have h10 := pay10_at (k0_pay2 (F := Ideal) x d) ws (fun j => A.h (seqOf (rowOf i j)) (tokOf (rowOf i j)))
    (fun a => A.W ⟨a.val / 256, by omega⟩ ⟨a.val % 256, by omega⟩) h2 hws
  refine (pay1_at _ _ _ be wug _ (fun j e => A.w (seqOf (rowOf i j)) (tokOf (rowOf i j)) e) _ A.B (fun o r => A.Up o r * A.gam o)
    h2 h9 h10 hb hu j o).trans (congrArg _ ?_)
  refine Finset.sum_congr rfl fun r _ => ?_
  unfold tok
  refine congrArg₂ (· * ·) (congrArg₂ (· + ·) rfl (congrArg₂ (· + ·) rfl ?_)) rfl
  refine Finset.sum_congr rfl fun e _ => congrArg₂ (· * ·) ?_ rfl
  unfold expert
  refine Finset.sum_congr rfl fun q _ => ?_
  have ha : (⟨(e.val * 256 + r.val) / 256, by omega⟩ : Fin 8) = e := Fin.ext (by show (e.val * 256 + r.val) / 256 = e.val; omega)
  have hr : (⟨(e.val * 256 + r.val) % 256, by omega⟩ : Fin 256) = r := Fin.ext (by show (e.val * 256 + r.val) % 256 = r.val; omega)
  show A.W ⟨(e.val * 256 + r.val) / 256, _⟩ ⟨(e.val * 256 + r.val) % 256, _⟩ q * _ = _
  rw [ha, hr]

end Cert.KernelIdeal.Value

end
-- ==== Proof.KArr.lean ====
module

public import proofs.«01_k».proof.Proof.KOut
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

/-- Seven arrays that hold the real arrays `A`. -/
structure Holds (A : Args) (x : FVec Ideal S4x2048x1024 .f32) (d : FVec Ideal S256x1024 .f32) (g : FVec Ideal S8x256 .f32)
    (we : FVec Ideal S8x256x256 .f32) (be : FVec Ideal S8x256 .f32) (wu : FVec Ideal S1024x256 .f32) (gm : FVec Ideal S1024 .f32) : Prop where
  hx : ∀ b s k, x (ix3 b s k) = ((A.X b s k : ℝ) : EReal)
  hd : ∀ a b, d (ix2 a b) = ((A.D a b : ℝ) : EReal)
  hg : ∀ a b, g (ix2 a b) = ((A.G a b : ℝ) : EReal)
  hw : ∀ e r q, we (ix3 e r q) = ((A.W e r q : ℝ) : EReal)
  hb : ∀ a b, be (ix2 a b) = ((A.B a b : ℝ) : EReal)
  hu : ∀ a b, wu (ix2 a b) = ((A.Up a b : ℝ) : EReal)
  hm : ∀ a, gm (ix1 a) = ((A.gam a : ℝ) : EReal)

variable (m : (ℓ : Loc nD τ sig) → Buf (Elt Ideal) ℓ)

/-- The argument arrays of core `c` hold `A`. -/
abbrev HoldsAt (A : Args) (c : Dev nD) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Where every window's block sits at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ (grid0.coords t 0).val = t.val ∧ t.val < 8 :=
  (by decide +kernel : ∀ t : Fin grid0.N, _)

/-- The flattened input the region finds. -/
theorem V_x (c : Dev nD) : V m c main_call0_v0
    = shapeCast S8192x1024 (show FVec Ideal S4x2048x1024 .f32 from m ((c : Thread nD τ).loc main_arg0)) shapeCasts_S4x2048x1024_S8192x1024 := by
  show StableHlo.after hostOps0 (fun b => m (c, b)) (Proc.devRef .tc main_call0_v0) = _
  after_results
  rfl

/-- The stacked expert weights the region finds. -/
theorem V_ws (c : Dev nD) : V m c main_call0_v1
    = shapeCast S2048x256 (show FVec Ideal S8x256x256 .f32 from m ((c : Thread nD τ).loc main_arg3)) shapeCasts_S8x256x256_S2048x256 := by
  show StableHlo.after hostOps0 (fun b => m (c, b)) (Proc.devRef .tc main_call0_v1) = _
  after_results
  rfl

/-- The scaled up projection the region finds. -/
theorem V_wug (c : Dev nD) : V m c main_call0_v4
    = mulf (show FVec Ideal S1024x256 .f32 from m ((c : Thread nD τ).loc main_arg5)) (broadcastInDim S1024x256 ![0, 1] bcast_S1024x1_S1024x256_0_1
        (broadcastInDim S1024x1 ![0] bcast_S1024_S1024x1_0 (show FVec Ideal S1024 .f32 from m ((c : Thread nD τ).loc main_arg6)))) := by
  show StableHlo.after hostOps0 (fun b => m (c, b)) (Proc.devRef .tc main_call0_v4) = _
  after_results
  rfl

/-- The rows block `t` stages. -/
theorem blk0_at (A : Args) (c : Dev nD) (hA : HoldsAt m A c) (t : Fin cfg0.N) (i : Fin 8) (hi : i.val = t.val) (j k : Fin 1024) :
    (iblk m c 0 t : Vec Ideal S1024x1024 .f32) (ix2 j k) = ((A.X (seqOf (rowOf i j)) (tokOf (rowOf i j)) k : ℝ) : EReal) := by
  rw [← hA.hx]
  have he : (((cfg0.win 0).blk t).view.emb (ix2 j k) : S8192x1024.Idx) = ix2 (rowOf i j) k := by blk_ext [idx t, rowOf, hi]
  show V m c main_call0_v0 (((cfg0.win 0).blk t).view.emb (ix2 j k)) = _
  rw [V_x]
  refine (congrArg _ he).trans ?_
  pointwise
  rfl

/-- The whole array stays staged. -/
theorem blk1_at (A : Args) (c : Dev nD) (hA : HoldsAt m A c) (t : Fin cfg0.N) (a : Fin 256) (b : Fin 1024) :
    (iblk m c 1 t : Vec Ideal S256x1024 .f32) (ix2 a b) = ((A.D a b : ℝ) : EReal) := by
  rw [← hA.hd]
  blk_ext [iblk, V, idx t]

theorem blk2_at (A : Args) (c : Dev nD) (hA : HoldsAt m A c) (t : Fin cfg0.N) (a : Fin 8) (b : Fin 256) :
    (iblk m c 2 t : Vec Ideal S8x256 .f32) (ix2 a b) = ((A.G a b : ℝ) : EReal) := by
  rw [← hA.hg]
  blk_ext [iblk, V, idx t]

theorem blk4_at (A : Args) (c : Dev nD) (hA : HoldsAt m A c) (t : Fin cfg0.N) (a : Fin 8) (b : Fin 256) :
    (iblk m c 4 t : Vec Ideal S8x256 .f32) (ix2 a b) = ((A.B a b : ℝ) : EReal) := by
  rw [← hA.hb]
  blk_ext [iblk, V, idx t]

theorem blk3_at (A : Args) (c : Dev nD) (hA : HoldsAt m A c) (t : Fin cfg0.N) (a : Fin 2048) (q : Fin 256) :
    (iblk m c 3 t : Vec Ideal S2048x256 .f32) (ix2 a q) = ((A.W ⟨a.val / 256, by omega⟩ ⟨a.val % 256, by omega⟩ q : ℝ) : EReal) := by
  rw [← hA.hw]
  have he : (((cfg0.win 3).blk t).view.emb (ix2 a q) : S2048x256.Idx) = ix2 a q := by blk_ext [idx t]
  show V m c main_call0_v1 (((cfg0.win 3).blk t).view.emb (ix2 a q)) = _
  rw [V_ws]
  refine (congrArg _ he).trans ?_
  pointwise

theorem blk5_at (A : Args) (c : Dev nD) (hA : HoldsAt m A c) (t : Fin cfg0.N) (o : Fin 1024) (r : Fin 256) :
    (iblk m c 5 t : Vec Ideal S1024x256 .f32) (ix2 o r) = ((A.Up o r * A.gam o : ℝ) : EReal) := by
  rw [EReal.coe_mul, ← hA.hu, ← hA.hm]
  have he : (((cfg0.win 5).blk t).view.emb (ix2 o r) : S1024x256.Idx) = ix2 o r := by blk_ext [idx t]
  show V m c main_call0_v4 (((cfg0.win 5).blk t).view.emb (ix2 o r)) = _
  rw [V_wug]
  refine (congrArg _ he).trans ?_
  pointwise

/-- The array the region leaves: the layer's result row by row. -/
def rows (A : Args) : FVec Ideal S8192x1024 .f32 := fun i => ((A.out (seqOf (i 0)) (tokOf (i 0)) (i 1) : ℝ) : EReal)

/-- The result array after the run. -/
theorem final (A : Args) (c : Dev nD) (hA : HoldsAt m A c) : (dats m 0 c).arrAt 6 (cfgs 0).N = rows A := by
  refine (dats m 0 c).arrAt_eq_of_covers 6 _ (by decide +kernel) fun t _ y => ?_
  blk_simp
  rw [after0_6]; unfold_out out0_6; frame_out
  obtain ⟨j, o, rfl⟩ : ∃ j o : Fin 1024, y = (ix2 j o : S1024x1024.Idx) := ⟨y 0, y 1, eq_ix2 y⟩
  have ht : t.val < 8 := (idx t).2.2.2.2.2.2.2.2
  have he : (((cfg0.win 6).blk t).view.emb (ix2 j o) : S8192x1024.Idx) = ix2 (rowOf ⟨t.val, ht⟩ j) o := by blk_ext [idx t, rowOf]
  rw [(idx t).2.2.2.2.2.2.2.1]
  refine (block_at A ⟨t.val, ht⟩ _ _ _ _ _ _ (blk0_at m A c hA t ⟨t.val, ht⟩ rfl) (blk1_at m A c hA t) (blk2_at m A c hA t)
    (blk3_at m A c hA t) (blk4_at m A c hA t) (blk5_at m A c hA t) j o).trans ?_
  exact (congrArg (rows A) he).symm

end Cert.KernelIdeal.Value

end
-- ==== Proof.KRun.lean ====
module

public import proofs.«01_k».proof.Proof.KArr
public import Idealize.ShloMosaic.Lib.Claim

@[expose] public section

set_option maxRecDepth 16384

noncomputable section

open Idealize.ShloMosaic Idealize.ShloMosaic.TcCoe Idealize.SL.Sem

/-! # What the kernel's run leaves in its result -/

namespace Cert.KernelIdeal.Value

open Cert.KernelIdeal Cert.KernelIdeal.Gen Cert.Spec

variable (m : (ℓ : Loc nD τ sig) → Buf (Elt Ideal) ℓ)

/-- The layer's result as an array of extended reals. -/
def outOf (A : Args) : FVec Ideal S4x2048x1024 .f32 := fun i => ((A.out (i 0) (i 1) (i 2) : ℝ) : EReal)

/-- The rows of the region's array unfolded by sequence are the layer's result. -/
theorem unfold_rows (A : Args) : shapeCast S4x2048x1024 (rows A) shapeCasts_S8192x1024_S4x2048x1024 = outOf A := by
  funext i
  idx_vars i
  pointwise [rows, outOf]
  rw [show seqOf ⟨i0.val * 2048 + i1.val, by omega⟩ = i0 from Fin.ext (by show (i0.val * 2048 + i1.val) / 2048 = i0.val; omega),
    show tokOf ⟨i0.val * 2048 + i1.val, by omega⟩ = i1 from Fin.ext (by show (i0.val * 2048 + i1.val) % 2048 = i1.val; omega)]

/-- The line after the region reshapes the region's array into the result. -/
theorem tail_v0 (c : Dev nD) : Pipeline.afterTail₀ cfgs (dats m) 0 (V0 m) [hostOps1] c main_v0
    = shapeCast S4x2048x1024 (show FVec Ideal S8192x1024 .f32 from (dats m 0 c).arrAt 6 (cfgs 0).N) shapeCasts_S8192x1024_S4x2048x1024 := by
  unfold Pipeline.afterTail₀
  show StableHlo.after hostOps1 _ (Proc.devRef .tc main_v0) = _
  after_results
  exact congrArg (fun x : FVec Ideal S8192x1024 .f32 => shapeCast S4x2048x1024 x shapeCasts_S8192x1024_S4x2048x1024)
    (Pipeline.withArrays_arr _ launch0.win.arr_inj c (V0 m c) _ 6)

/-- The kernel ends with the layer's result and its arguments unchanged. -/
theorem run_out (ρ : Dev nD → PrngReg) (A : Dev nD → Args) (hA : ∀ c, HoldsAt m (A c) c) :
    θ_run defs (onTc (τ := τ) (main (F := Ideal))) ⟨m, fun _ => 0, ρ⟩ fun r => ∀ c : Dev nD,
      r.2.mem ((c.tc : Thread nD τ).loc main_v0) = outOf (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono ?_ (θ_run_and (run_main m ρ) (unchanged m ρ))
  intro r h c
  refine ⟨?_, h.2 c⟩
  have h0 := (h.1 c).2 main_v0 (Pipeline.mem_restRefs_of main_v0 (by decide) (by decide))
  refine h0.trans ((tail_v0 m c).trans ?_)
  rw [final m (A c) c (hA c)]
  exact unfold_rows (A c)

end Cert.KernelIdeal.Value

end
-- ==== Proof.RHid.lean ====
module

public import proofs.«01_k».proof.Proof.Spec
public import proofs.«01_k».proof.Proof.Gen.ReferenceIdeal.Run
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem Idealize.ShloMosaic.StableHlo

/-! # The reference up to its softmax scores, entry by entry -/

namespace Cert.ReferenceIdeal.Value

open Cert.ReferenceIdeal Cert.ReferenceIdeal.Gen Cert.Spec Cert.Top2

/-- The sequence of row `n` of the gated tokens. -/
def seqAt (n : Fin 8172) : Fin 4 := ⟨n.val / 2043, by omega⟩

/-- The token of row `n` of the gated tokens: its sequence's leading five are left out. -/
def tokAt (n : Fin 8172) : Fin 2048 := ⟨5 + n.val % 2043, by omega⟩

/-- The root of two is not zero. -/
theorem sqrt2_ne : Real.sqrt 2 ≠ 0 := (Real.sqrt_pos.mpr two_pos).ne'

/-- The shifted exponentials sum to a positive real. -/
theorem sum_u_pos (A : Args) (b : Fin 4) (s : Fin 2048) : 0 < ∑ k, A.u b s k := Finset.sum_pos (fun k _ => U_pos _ k) ⟨0, Finset.mem_univ _⟩

/-- The reference's gelu of a real. -/
theorem gelu_ref (v : ℝ) : (((1 / 2 : ℝ) : EReal) * (v : EReal)) * Ideal.erfc (Ideal.div (-(v : EReal)) ((Real.sqrt 2 : ℝ) : EReal))
    = ((geluR v : ℝ) : EReal) := by
  rw [← EReal.coe_neg, div_real _ _ sqrt2_ne, neg_div, EReal.coe_neg, Ideal.erfc_neg, erf_real, ← EReal.coe_one, ← EReal.coe_mul,
    ← EReal.coe_add, ← EReal.coe_mul, div_eq_mul_inv]
  rfl

section
variable (V0 : Valuation τ sig (Elt Ideal)) (A : Args)

/-- The hidden vector of every token. -/
theorem v9_at (hx : ∀ b s k, (V0 (Proc.devRef .tc main_arg0) : FVec Ideal S4x2048x1024 .f32) (ix3 b s k) = ((A.X b s k : ℝ) : EReal))
    (hd : ∀ a b, (V0 (Proc.devRef .tc main_arg1) : FVec Ideal S256x1024 .f32) (ix2 a b) = ((A.D a b : ℝ) : EReal))
    (b : Fin 4) (s : Fin 2048) (r : Fin 256) :
    (res_main_v9 V0 : FVec Ideal S4x2048x256 .f32) (ix3 b s r) = ((A.h b s r : ℝ) : EReal) := by
  have h0 : (res_main_v0 V0 : FVec Ideal S4x2048x256 .f32) (ix3 b s r) = ((∑ k, A.D r k * A.X b s k : ℝ) : EReal) := by
    pointwise [res_main_v0]
    refine (sum_mul_coe (fun k => hx b s k) fun k => hd r k).trans (congrArg _ (Finset.sum_congr rfl fun k _ => mul_comm _ _))
  pointwise [res_main_v9, h0]
  have hs : (id (Host.sqrt (constant S_ .f32 0x40000000#32)) : FVec Ideal S_ .f32) ix0 = ((Real.sqrt 2 : ℝ) : EReal) := by
    show Ideal.sqrt (Ideal.ofBits .f32 0x40000000#32) = _
    rw [ofBits_two, Ideal.sqrt_coe, if_neg (by norm_num)]
  rw [hs, ofBits_half]
  exact gelu_ref _

/-- The gated tokens' hidden vectors. -/
theorem v12_at (h9 : ∀ b s r, (res_main_v9 V0 : FVec Ideal S4x2048x256 .f32) (ix3 b s r) = ((A.h b s r : ℝ) : EReal))
    (b : Fin 4) (s : Fin 2043) (r : Fin 256) :
    (res_main_v12 V0 : FVec Ideal S4x2043x256 .f32) (ix3 b s r) = ((A.h b ⟨5 + s.val, by omega⟩ r : ℝ) : EReal) := by
  pointwise [res_main_v12, h9]

/-- The gated tokens' hidden vectors as rows. -/
theorem v13_at (h12 : ∀ (b : Fin 4) (s : Fin 2043) (r : Fin 256), (res_main_v12 V0 : FVec Ideal S4x2043x256 .f32) (ix3 b s r) = ((A.h b ⟨5 + s.val, by omega⟩ r : ℝ) : EReal))
    (n : Fin 8172) (r : Fin 256) :
    (res_main_v13 V0 : FVec Ideal S8172x256 .f32) (ix2 n r) = ((A.h (seqAt n) (tokAt n) r : ℝ) : EReal) := by
  pointwise [res_main_v13, h12]
  rfl

/-- The gate logits of row `n`. -/
theorem v17_at (h13 : ∀ n r, (res_main_v13 V0 : FVec Ideal S8172x256 .f32) (ix2 n r) = ((A.h (seqAt n) (tokAt n) r : ℝ) : EReal))
    (hg : ∀ a b, (V0 (Proc.devRef .tc main_arg2) : FVec Ideal S8x256 .f32) (ix2 a b) = ((A.G a b : ℝ) : EReal))
    (n : Fin 8172) (e : Fin 8) :
    (res_main_v17 V0 : FVec Ideal S8172x8 .f32) (ix2 n e) = ((logit (A.h (seqAt n) (tokAt n)) A.G e : ℝ) : EReal) := by
  pointwise [res_main_v17, h13]
  rw [sum_mul_coe (fun _ => rfl) (fun k => hg e k), ← EReal.coe_one, div_real _ _ one_ne_zero, div_one]
  exact congrArg _ (Finset.sum_congr rfl fun k _ => mul_comm _ _)

/-- The greatest entry of a row of reals. -/
theorem fold_row (x : FVec Ideal S8172x8 .f32) (n : Fin 8172) (f : Fin 8 → ℝ) (hf : ∀ e, x (ix2 n e) = ((f e : ℝ) : EReal)) :
    ({i : S8172x8.Idx | reducesTo_S8172x8_S8172_d1.drop i = ix1 n} : Finset S8172x8.Idx).fold max (Ideal.ofBits .f32 0xFF800000#32) x
      = ((f (fst8 f) : ℝ) : EReal) := by
  refine (reducesTo_S8172x8_S8172_d1.fold_fiber_r2_a1 (ix1 n) max _ x).trans ?_
  refine (fold_max_eq _ (fun e => x (ix2 n e)) (fst8 f) (by rw [ofBits_bot]; exact bot_le) fun e => ?_).trans (hf _)
  exact (hf e).le.trans ((EReal.coe_le_coe_iff.mpr (le_fst8 f e)).trans (hf _).ge)

/-- The shifted exponentials of row `n`. -/
theorem v24_at (h17 : ∀ n e, (res_main_v17 V0 : FVec Ideal S8172x8 .f32) (ix2 n e) = ((logit (A.h (seqAt n) (tokAt n)) A.G e : ℝ) : EReal))
    (n : Fin 8172) (e : Fin 8) :
    (res_main_v24 V0 : FVec Ideal S8172x8 .f32) (ix2 n e) = ((A.u (seqAt n) (tokAt n) e : ℝ) : EReal) := by
  pointwise [res_main_v24, h17]
  refine (congrArg (fun z => Ideal.exp (_ - max (Ideal.ofBits .f32 0xFF800000#32) z))
    (fold_row (res_main_v17 V0) n (fun e => logit (A.h (seqAt n) (tokAt n)) A.G e) fun e => h17 n e)).trans ?_
  rw [ofBits_bot, max_eq_right bot_le, ← EReal.coe_sub, Ideal.exp_coe]
  rfl

/-- The softmax scores of row `n`. -/
theorem v28_at (h24 : ∀ n e, (res_main_v24 V0 : FVec Ideal S8172x8 .f32) (ix2 n e) = ((A.u (seqAt n) (tokAt n) e : ℝ) : EReal))
    (n : Fin 8172) (e : Fin 8) :
    (res_main_v28 V0 : FVec Ideal S8172x8 .f32) (ix2 n e)
      = ((A.u (seqAt n) (tokAt n) e / ∑ k, A.u (seqAt n) (tokAt n) k : ℝ) : EReal) := by
  pointwise [res_main_v28, h24]
  rw [coe_sum, div_real _ _ (sum_u_pos A _ _).ne']

end

end Cert.ReferenceIdeal.Value

end
-- ==== Proof.RTop.lean ====
module

public import proofs.«01_k».proof.Proof.RHid
public import Idealize.ShloMosaic.Lib.SortFacts

@[expose] public section

set_option maxRecDepth 16384

noncomputable section

open Idealize.ShloMosaic Idealize.ShloMosaic.TcCoe Idealize.SL.Sem Idealize.ShloMosaic.StableHlo

/-! # The reference's two choices and its expert weights, entry by entry -/

namespace Cert.ReferenceIdeal.Value

open Cert.ReferenceIdeal Cert.ReferenceIdeal.Gen Cert.Spec Cert.Top2

/-- The position that rank `k` of the two greatest takes among eight reals. -/
def rank2 (f : Fin 8 → ℝ) (k : Fin 2) : Fin 8 := sortedFrom (gtB f) ⟨k.val, by omega⟩

/-- Moving an index along its row. -/
theorem along_row (n : Fin 8172) (k e : Fin 8) : (ix2 n k : S8172x8.Idx).along 1 e = ix2 n e := by
  funext a
  match a with
  | ⟨0, _⟩ => rfl
  | ⟨1, _⟩ => rfl

/-- The comparator of the host's sort on a row of reals. -/
theorem before_row (x : FVec Ideal S8172x8 .f32) (n : Fin 8172) (f : Fin 8 → ℝ) (hf : ∀ e, x (ix2 n e) = ((f e : ℝ) : EReal)) (k : Fin 8) :
    (fun a b : Fin 8 => FloatOps.cmpfTotal (F := Ideal) (φ := .f32) .gt (x ((ix2 n k : S8172x8.Idx).along 1 a)) (x ((ix2 n k : S8172x8.Idx).along 1 b)) == 1#1)
      = gtB f := by
  funext a b
  rw [along_row, along_row, hf, hf]
  show (BitVec.ofBool (decide ((f b : EReal) < (f a : EReal))) == 1#1) = decide (f b < f a)
  rw [decide_eq_decide.mpr (EReal.coe_lt_coe_iff (x := f b) (y := f a))]
  cases decide (f b < f a) <;> rfl

/-- Keeping the first two columns. -/
theorem cut_row {α : Type} (y : S8172x8.Idx → α) (n : Fin 8172) (k : Fin 2) :
    extractStridedSlice S8172x2 (fun _ => 0) y sliceFits_S8172x8_S8172x2 (ix2 n k) = y (ix2 n ⟨k.val, by omega⟩) := by
  refine congrArg y (funext fun a => Fin.ext ?_)
  match a with
  | ⟨0, _⟩ => exact Nat.zero_add _
  | ⟨1, _⟩ => exact Nat.zero_add _

/-- The host's two greatest values of a row of reals. -/
theorem topK_values (x : FVec Ideal S8172x8 .f32) (n : Fin 8172) (f : Fin 8 → ℝ) (hf : ∀ e, x (ix2 n e) = ((f e : ℝ) : EReal)) (k : Fin 2) :
    (Host.topK S8172x2 1 (FloatOps.cmpfTotal (F := Ideal) (φ := .f32) .gt) x sliceFits_S8172x8_S8172x2).1 (ix2 n k) = ((f (rank2 f k) : ℝ) : EReal) := by
  unfold Host.topK Host.sort2
  dsimp only
  rw [cut_row, dif_pos (by decide)]
  refine (congrArg x (along_row n _ _)).trans ((hf _).trans ?_)
  exact congrArg (fun z => ((f (sortedFrom z (⟨k.val, by omega⟩ : Fin 8)) : ℝ) : EReal)) (before_row x n f hf ⟨k.val, by omega⟩)

/-- The positions of the host's two greatest values of a row of reals. -/
theorem topK_indices (x : FVec Ideal S8172x8 .f32) (n : Fin 8172) (f : Fin 8 → ℝ) (hf : ∀ e, x (ix2 n e) = ((f e : ℝ) : EReal)) (k : Fin 2) :
    (Host.topK S8172x2 1 (FloatOps.cmpfTotal (F := Ideal) (φ := .f32) .gt) x sliceFits_S8172x8_S8172x2).2 (ix2 n k) = BitVec.ofNat 32 (rank2 f k).val := by
  unfold Host.topK Host.sort2
  dsimp only
  rw [cut_row, dif_pos (by decide)]
  refine (congrArg (iotaInDim S8172x8 32 1) (along_row n _ _)).trans ?_
  exact congrArg (fun z => BitVec.ofNat 32 (sortedFrom z (⟨k.val, by omega⟩ : Fin 8)).val) (before_row x n f hf ⟨k.val, by omega⟩)

/-- Dividing a row by a positive real does not change the two choices. -/
theorem rank2_div (f : Fin 8 → ℝ) (c : ℝ) (hc : 0 < c) (k : Fin 2) : rank2 (fun e => f e / c) k = rank2 f k := by
  unfold rank2
  rw [gtB_congr (fun e => f e / c) f fun b d => div_lt_div_iff_of_pos_right hc]

/-- The number of a comparison of two positions: one when they agree. -/
theorem mark_eq (a e : Fin 8) : (FloatOps.uitofp (F := Ideal) .f32 (IntOp.cmpi .eq (BitVec.ofNat 32 a.val) (BitVec.ofNat 32 e.val)) : EReal)
    = ((if e = a then 1 else 0 : ℝ) : EReal) := by
  have h : IntOp.cmpi CmpIPredicate.eq (BitVec.ofNat 32 a.val) (BitVec.ofNat 32 e.val) = BitVec.ofBool (decide (e = a)) := by
    revert a e; decide
  rw [h]
  by_cases he : e = a
  · rw [if_pos he, decide_eq_true he]
    simp [FloatOps.uitofp]
  · rw [if_neg he, decide_eq_false he]
    simp [FloatOps.uitofp]

section
variable (V0 : Valuation τ sig (Elt Ideal)) (A : Args)

section
variable (h28 : ∀ n e, (res_main_v28 V0 : FVec Ideal S8172x8 .f32) (ix2 n e)
      = ((A.u (seqAt n) (tokAt n) e / ∑ k, A.u (seqAt n) (tokAt n) k : ℝ) : EReal))
include h28

/-- The chosen scores of row `n`. -/
theorem values_at (n : Fin 8172) (k : Fin 2) : (res_main_values V0 : FVec Ideal S8172x2 .f32) (ix2 n k)
    = ((A.u (seqAt n) (tokAt n) (rank2 (A.u (seqAt n) (tokAt n)) k) / ∑ k, A.u (seqAt n) (tokAt n) k : ℝ) : EReal) := by
  refine (topK_values _ n _ (fun e => h28 n e) k).trans ?_
  rw [rank2_div _ _ (sum_u_pos A _ _)]

/-- The chosen positions of row `n`. -/
theorem indices_at (n : Fin 8172) (k : Fin 2) : (res_main_indices V0 : IVec S8172x2 32) (ix2 n k)
    = BitVec.ofNat 32 (rank2 (A.u (seqAt n) (tokAt n)) k).val := by
  refine (topK_indices _ n _ (fun e => h28 n e) k).trans ?_
  rw [rank2_div _ _ (sum_u_pos A _ _)]

end

/-- The two chosen scores over their sum. -/
theorem v32_at (hv : ∀ n k, (res_main_values V0 : FVec Ideal S8172x2 .f32) (ix2 n k)
      = ((A.u (seqAt n) (tokAt n) (rank2 (A.u (seqAt n) (tokAt n)) k) / ∑ k, A.u (seqAt n) (tokAt n) k : ℝ) : EReal)) (n : Fin 8172) (k : Fin 2) :
    (res_main_v32 V0 : FVec Ideal S8172x2 .f32) (ix2 n k)
      = ((A.u (seqAt n) (tokAt n) (rank2 (A.u (seqAt n) (tokAt n)) k)
          / (A.u (seqAt n) (tokAt n) (fst8 (A.u (seqAt n) (tokAt n))) + A.u (seqAt n) (tokAt n) (snd8 (A.u (seqAt n) (tokAt n)))) : ℝ) : EReal) := by
  have hpos : ∀ e, 0 < A.u (seqAt n) (tokAt n) e := fun e => U_pos _ e
  have hS := sum_u_pos A (seqAt n) (tokAt n)
  pointwise [res_main_v32, hv]
  generalize A.u (seqAt n) (tokAt n) = u at hpos hS ⊢
  rw [Fin.sum_univ_two, ← EReal.coe_add, div_real _ _ (add_pos (div_pos (hpos _) hS) (div_pos (hpos _) hS)).ne', ← add_div,
    div_div_div_cancel_right₀ hS.ne']
  rfl

/-- The reference's weights of expert `e`: the chosen scores on the rows that chose it. -/
def weightT (e : Fin 8) : FVec Ideal S8172 .f32 :=
  Host.reduceAdd (F := Ideal) (φ := .f32) (mulf (res_main_v32 V0) (uitofp .f32 (cmpi .eq (res_main_indices V0)
    (broadcastInDim S8172x2 ![] bcast_S_S8172x2 (constantI S_ 32 (BitVec.ofNat 32 e.val))))))
    (constant S_ .f32 0x00000000#32) reducesTo_S8172x2_S8172_d1 h_S_

/-- The reference's weight of expert `e` is the layer's. -/
theorem weight_at (h32 : ∀ n k, (res_main_v32 V0 : FVec Ideal S8172x2 .f32) (ix2 n k)
      = ((A.u (seqAt n) (tokAt n) (rank2 (A.u (seqAt n) (tokAt n)) k)
          / (A.u (seqAt n) (tokAt n) (fst8 (A.u (seqAt n) (tokAt n))) + A.u (seqAt n) (tokAt n) (snd8 (A.u (seqAt n) (tokAt n)))) : ℝ) : EReal))
    (hi : ∀ n k, (res_main_indices V0 : IVec S8172x2 32) (ix2 n k) = BitVec.ofNat 32 (rank2 (A.u (seqAt n) (tokAt n)) k).val)
    (e : Fin 8) (n : Fin 8172) :
    weightT V0 e (ix1 n) = ((wgt (A.u (seqAt n) (tokAt n)) e : ℝ) : EReal) := by
  pointwise [weightT, h32, hi]
  generalize A.u (seqAt n) (tokAt n) = u
  rw [Fin.sum_univ_two, mark_eq, mark_eq, ← EReal.coe_mul, ← EReal.coe_mul, ← EReal.coe_add]
  refine congrArg _ ?_
  show u (fst8 u) / _ * (if e = fst8 u then 1 else 0) + u (snd8 u) / _ * (if e = snd8 u then 1 else 0) = wgt u e
  unfold wgt
  rw [mul_ite, mul_ite, mul_one, mul_one, mul_zero, mul_zero, add_div, ite_div, ite_div, zero_div]

end

end Cert.ReferenceIdeal.Value

end
-- ==== Proof.ROut.lean ====
module

public import proofs.«01_k».proof.Proof.RTop

@[expose] public section

set_option maxRecDepth 16384

noncomputable section

open Idealize.ShloMosaic Idealize.ShloMosaic.TcCoe Idealize.SL.Sem Idealize.ShloMosaic.StableHlo

/-! # The reference's weighted experts and its result, entry by entry -/

namespace Cert.ReferenceIdeal.Value

open Cert.ReferenceIdeal Cert.ReferenceIdeal.Gen Cert.Spec Cert.Top2

/-- A gated token: the biases and the products weighed together. -/
theorem tok_late (A : Args) (b : Fin 4) (s : Fin 2048) (r : Fin 256) (h : 5 ≤ s.val) :
    tok (A.h b s) (A.w b s) A.W A.B r = A.h b s r + ∑ e, (expert (A.h b s) A.W e r + A.B e r) * wgt (A.u b s) e := by
  have hw : A.w b s = wgt (A.u b s) := funext fun e => if_pos h
  unfold tok
  rw [hw, ← Finset.sum_add_distrib]
  refine congrArg _ (Finset.sum_congr rfl fun e _ => ?_)
  ring

/-- A leading token: nothing is added. -/
theorem tok_early (A : Args) (b : Fin 4) (s : Fin 2048) (r : Fin 256) (h : ¬ 5 ≤ s.val) : tok (A.h b s) (A.w b s) A.W A.B r = A.h b s r := by
  have hw : A.w b s = fun _ => 0 := funext fun e => if_neg h
  unfold tok
  rw [hw]
  simp

section
variable (V0 : Valuation τ sig (Elt Ideal)) (A : Args)

/-- The reference's term for one expert: its product with the tokens plus its bias, times its weights. -/
def expertT (e : Fin 8) (h3 : S8x256x256.Slices ![e.val, 0, 0] S1x256x256) (h4 : S8x256.Slices ![e.val, 0] S1x256) : FVec Ideal S8172x256 .f32 :=
  mulf (addf (Host.dotGeneral (φ₁ := .f32) (φ₂ := .f32) dot_S8172x256_S256x256_S8172x256_1_0_0_1_n_n none (res_main_v13 V0) (transpose S256x256 [1, 0] (shapeCast _ (extractStridedSlice S1x256x256 ![e.val, 0, 0] (V0 (Proc.devRef .tc main_arg3)) h3) shapeCasts_S1x256x256_S256x256) transposes_S256x256_S256x256_1_0)) (broadcastInDim S8172x256 ![0, 1] bcast_S1x256_S8172x256_0_1 (broadcastInDim S1x256 ![1] bcast_S256_S1x256_1 (shapeCast _ (extractStridedSlice S1x256 ![e.val, 0] (V0 (Proc.devRef .tc main_arg4)) h4) shapeCasts_S1x256_S256)))) (broadcastInDim S8172x256 ![0, 1] bcast_S8172x1_S8172x256_0_1 (broadcastInDim S8172x1 ![0] bcast_S8172_S8172x1_0 (weightT V0 e)))

/-- One expert's term at row `n`. -/
theorem expertT_at (h13 : ∀ n r, (res_main_v13 V0 : FVec Ideal S8172x256 .f32) (ix2 n r) = ((A.h (seqAt n) (tokAt n) r : ℝ) : EReal))
    (hw : ∀ e r q, (V0 (Proc.devRef .tc main_arg3) : FVec Ideal S8x256x256 .f32) (ix3 e r q) = ((A.W e r q : ℝ) : EReal))
    (hb : ∀ a b, (V0 (Proc.devRef .tc main_arg4) : FVec Ideal S8x256 .f32) (ix2 a b) = ((A.B a b : ℝ) : EReal))
    (hwt : ∀ e n, weightT V0 e (ix1 n) = ((wgt (A.u (seqAt n) (tokAt n)) e : ℝ) : EReal))
    (e : Fin 8) (h3 : S8x256x256.Slices ![e.val, 0, 0] S1x256x256) (h4 : S8x256.Slices ![e.val, 0] S1x256) (n : Fin 8172) (r : Fin 256) :
    expertT V0 e h3 h4 (ix2 n r)
      = (((expert (A.h (seqAt n) (tokAt n)) A.W e r + A.B e r) * wgt (A.u (seqAt n) (tokAt n)) e : ℝ) : EReal) := by
  pointwise [expertT, h13, hwt]
  rw [sum_mul_coe (fun _ => rfl) (fun k => hw e r k), show (V0 (Proc.devRef .tc main_arg4) : FVec Ideal S8x256 .f32) (ix2 e r) = _ from hb e r,
    ← EReal.coe_add, ← EReal.coe_mul]
  refine congrArg _ (congrArg (fun z => (z + A.B e r) * wgt (A.u (seqAt n) (tokAt n)) e) ?_)
  exact Finset.sum_congr rfl fun k _ => mul_comm _ _

/-- The eight experts' terms summed from zero. -/
def mixT : FVec Ideal S8172x256 .f32 :=
  addf (addf (addf (addf (addf (addf (addf (addf (broadcastInDim S8172x256 ![] bcast_S_S8172x256 (constant S_ .f32 0x00000000#32))
    (expertT V0 0 slices_S8x256x256_S1x256x256_0_0_0 slices_S8x256_S1x256_0_0)) (expertT V0 1 slices_S8x256x256_S1x256x256_1_0_0 slices_S8x256_S1x256_1_0))
    (expertT V0 2 slices_S8x256x256_S1x256x256_2_0_0 slices_S8x256_S1x256_2_0)) (expertT V0 3 slices_S8x256x256_S1x256x256_3_0_0 slices_S8x256_S1x256_3_0))
    (expertT V0 4 slices_S8x256x256_S1x256x256_4_0_0 slices_S8x256_S1x256_4_0)) (expertT V0 5 slices_S8x256x256_S1x256x256_5_0_0 slices_S8x256_S1x256_5_0))
    (expertT V0 6 slices_S8x256x256_S1x256x256_6_0_0 slices_S8x256_S1x256_6_0)) (expertT V0 7 slices_S8x256x256_S1x256x256_7_0_0 slices_S8x256_S1x256_7_0)

/-- The mixture at row `n`. -/
theorem mixT_at (he : ∀ (e : Fin 8) (h3 : S8x256x256.Slices ![e.val, 0, 0] S1x256x256) (h4 : S8x256.Slices ![e.val, 0] S1x256) (n : Fin 8172) (r : Fin 256),
      expertT V0 e h3 h4 (ix2 n r)
        = (((expert (A.h (seqAt n) (tokAt n)) A.W e r + A.B e r) * wgt (A.u (seqAt n) (tokAt n)) e : ℝ) : EReal))
    (n : Fin 8172) (r : Fin 256) : mixT V0 (ix2 n r)
      = ((∑ e, (expert (A.h (seqAt n) (tokAt n)) A.W e r + A.B e r) * wgt (A.u (seqAt n) (tokAt n)) e : ℝ) : EReal) := by
  pointwise [mixT, he]
  rw [Fin.sum_univ_eight]
  simp only [EReal.coe_add]

/-- All tokens: the leading five as they are, the others with the mixture added. -/
def tokT : FVec Ideal S4x2048x256 .f32 :=
  concatenate S4x2048x256 1 [⟨S4x1x256, ((extractStridedSlice S4x1x256 ![0, 0, 0] (res_main_v9 V0) slices_S4x2048x256_S4x1x256_0_0_0) : (⟨S4x1x256, .f32⟩ : BufTy).Contents (Elt Ideal))⟩, ⟨S4x4x256, ((extractStridedSlice S4x4x256 ![0, 1, 0] (res_main_v9 V0) slices_S4x2048x256_S4x4x256_0_1_0) : (⟨S4x4x256, .f32⟩ : BufTy).Contents (Elt Ideal))⟩, ⟨S4x2043x256, ((addf (res_main_v12 V0) (shapeCast _ (mixT V0) shapeCasts_S8172x256_S4x2043x256)) : (⟨S4x2043x256, .f32⟩ : BufTy).Contents (Elt Ideal))⟩] concatenates_S4x1x256_S4x4x256_S4x2043x256_S4x2048x256_d1

/-- Every token after the mixture. -/
theorem tokT_at (h9 : ∀ b s r, (res_main_v9 V0 : FVec Ideal S4x2048x256 .f32) (ix3 b s r) = ((A.h b s r : ℝ) : EReal))
    (h12 : ∀ (b : Fin 4) (s : Fin 2043) (r : Fin 256), (res_main_v12 V0 : FVec Ideal S4x2043x256 .f32) (ix3 b s r) = ((A.h b ⟨5 + s.val, by omega⟩ r : ℝ) : EReal))
    (hm : ∀ (n : Fin 8172) (r : Fin 256), mixT V0 (ix2 n r)
      = ((∑ e, (expert (A.h (seqAt n) (tokAt n)) A.W e r + A.B e r) * wgt (A.u (seqAt n) (tokAt n)) e : ℝ) : EReal))
    (b : Fin 4) (s : Fin 2048) (r : Fin 256) : tokT V0 (ix3 b s r) = ((tok (A.h b s) (A.w b s) A.W A.B r : ℝ) : EReal) := by
  pointwise [tokT, h9, h12, hm]
  by_cases h5 : 5 ≤ s.val
  · rw [dif_neg (by omega), dif_neg (by omega), ← EReal.coe_add]
    have hs : (⟨5 + (s.val - 1 - 4), by omega⟩ : Fin 2048) = s := Fin.ext (by show 5 + (s.val - 1 - 4) = s.val; omega)
    have hq : seqAt ⟨b.val * 2043 + (s.val - 1 - 4), by omega⟩ = b :=
      Fin.ext (by show (b.val * 2043 + (s.val - 1 - 4)) / 2043 = b.val; omega)
    have ht : tokAt ⟨b.val * 2043 + (s.val - 1 - 4), by omega⟩ = s :=
      Fin.ext (by show 5 + (b.val * 2043 + (s.val - 1 - 4)) % 2043 = s.val; omega)
    rw [hs, hq, ht]
    exact congrArg _ (tok_late A b s r h5).symm
  · refine Eq.trans ?_ (congrArg _ (tok_early A b s r h5).symm)
    by_cases h1 : s.val < 1
    · rw [dif_pos h1]
    · rw [dif_neg h1, dif_pos (by omega)]
      exact congrArg (fun z => ((A.h b z r : ℝ) : EReal)) (Fin.ext (by show 1 + (s.val - 1) = s.val; omega))

/-- The reference's result of the arguments. -/
def resT : FVec Ideal S4x2048x1024 .f32 :=
  mulf (Host.dotGeneral (φ₁ := .f32) (φ₂ := .f32) dot_S4x2048x256_S1024x256_S4x2048x1024_2_1_01_0_n_n none (tokT V0) (V0 (Proc.devRef .tc main_arg5)))
    (broadcastInDim S4x2048x1024 ![0, 1, 2] bcast_S1x1x1024_S4x2048x1024_0_1_2 (broadcastInDim S1x1x1024 ![2] bcast_S1024_S1x1x1024_2 (V0 (Proc.devRef .tc main_arg6))))

/-- The reference's result is the layer's. -/
theorem resT_at (ht : ∀ (b : Fin 4) (s : Fin 2048) (r : Fin 256), tokT V0 (ix3 b s r) = ((tok (A.h b s) (A.w b s) A.W A.B r : ℝ) : EReal))
    (hu : ∀ a b, (V0 (Proc.devRef .tc main_arg5) : FVec Ideal S1024x256 .f32) (ix2 a b) = ((A.Up a b : ℝ) : EReal))
    (hg : ∀ a, (V0 (Proc.devRef .tc main_arg6) : FVec Ideal S1024 .f32) (ix1 a) = ((A.gam a : ℝ) : EReal))
    (b : Fin 4) (s : Fin 2048) (o : Fin 1024) : resT V0 (ix3 b s o) = ((A.out b s o : ℝ) : EReal) := by
  pointwise [resT, ht]
  rw [sum_mul_coe (fun _ => rfl) (fun k => hu o k), show (V0 (Proc.devRef .tc main_arg6) : FVec Ideal S1024 .f32) (ix1 o) = _ from hg o,
    ← EReal.coe_mul, Finset.sum_mul]
  exact congrArg _ (Finset.sum_congr rfl fun k _ => mul_assoc _ _ _)

/-- The reference's result, from arguments that are the reals of `A`. -/
theorem resT_of (hx : ∀ b s k, (V0 (Proc.devRef .tc main_arg0) : FVec Ideal S4x2048x1024 .f32) (ix3 b s k) = ((A.X b s k : ℝ) : EReal))
    (hd : ∀ a b, (V0 (Proc.devRef .tc main_arg1) : FVec Ideal S256x1024 .f32) (ix2 a b) = ((A.D a b : ℝ) : EReal))
    (hg : ∀ a b, (V0 (Proc.devRef .tc main_arg2) : FVec Ideal S8x256 .f32) (ix2 a b) = ((A.G a b : ℝ) : EReal))
    (hw : ∀ e r q, (V0 (Proc.devRef .tc main_arg3) : FVec Ideal S8x256x256 .f32) (ix3 e r q) = ((A.W e r q : ℝ) : EReal))
    (hb : ∀ a b, (V0 (Proc.devRef .tc main_arg4) : FVec Ideal S8x256 .f32) (ix2 a b) = ((A.B a b : ℝ) : EReal))
    (hu : ∀ a b, (V0 (Proc.devRef .tc main_arg5) : FVec Ideal S1024x256 .f32) (ix2 a b) = ((A.Up a b : ℝ) : EReal))
    (hm : ∀ a, (V0 (Proc.devRef .tc main_arg6) : FVec Ideal S1024 .f32) (ix1 a) = ((A.gam a : ℝ) : EReal))
    (b : Fin 4) (s : Fin 2048) (o : Fin 1024) : resT V0 (ix3 b s o) = ((A.out b s o : ℝ) : EReal) := by
  have h9 := v9_at V0 A hx hd
  have h12 := v12_at V0 A h9
  have h13 := v13_at V0 A h12
  have h28 := v28_at V0 A (v24_at V0 A (v17_at V0 A h13 hg))
  have hwt := weight_at V0 A (v32_at V0 A (values_at V0 A h28)) (indices_at V0 A h28)
  exact resT_at V0 A (tokT_at V0 A h9 h12 (mixT_at V0 A (expertT_at V0 A h13 hw hb hwt))) hu hm b s o

end

/-- The reference leaves the result of its arguments, and its arguments unchanged. -/
theorem run_resT (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v184) = resT (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.KRun
public import proofs.«01_k».proof.Proof.ROut
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The real arrays that core `c`'s arguments hold. -/
def argsOf (m : (ℓ : Loc Cert.KernelIdeal.nD Cert.KernelIdeal.τ Cert.KernelIdeal.sig) → Buf (Elt Ideal) ℓ) (c : Dev Cert.KernelIdeal.nD) : Cert.Spec.Args where
  X b s k := EReal.toReal ((m ((c.tc : Thread Cert.KernelIdeal.nD Cert.KernelIdeal.τ).loc Cert.KernelIdeal.main_arg0) : FVec Ideal Cert.KernelIdeal.S4x2048x1024 .f32) (ix3 b s k))
  D a b := EReal.toReal ((m ((c.tc : Thread Cert.KernelIdeal.nD Cert.KernelIdeal.τ).loc Cert.KernelIdeal.main_arg1) : FVec Ideal Cert.KernelIdeal.S256x1024 .f32) (ix2 a b))
  G a b := EReal.toReal ((m ((c.tc : Thread Cert.KernelIdeal.nD Cert.KernelIdeal.τ).loc Cert.KernelIdeal.main_arg2) : FVec Ideal Cert.KernelIdeal.S8x256 .f32) (ix2 a b))
  W e r q := EReal.toReal ((m ((c.tc : Thread Cert.KernelIdeal.nD Cert.KernelIdeal.τ).loc Cert.KernelIdeal.main_arg3) : FVec Ideal Cert.KernelIdeal.S8x256x256 .f32) (ix3 e r q))
  B a b := EReal.toReal ((m ((c.tc : Thread Cert.KernelIdeal.nD Cert.KernelIdeal.τ).loc Cert.KernelIdeal.main_arg4) : FVec Ideal Cert.KernelIdeal.S8x256 .f32) (ix2 a b))
  Up a b := EReal.toReal ((m ((c.tc : Thread Cert.KernelIdeal.nD Cert.KernelIdeal.τ).loc Cert.KernelIdeal.main_arg5) : FVec Ideal Cert.KernelIdeal.S1024x256 .f32) (ix2 a b))
  gam a := EReal.toReal ((m ((c.tc : Thread Cert.KernelIdeal.nD Cert.KernelIdeal.τ).loc Cert.KernelIdeal.main_arg6) : FVec Ideal Cert.KernelIdeal.S1024 .f32) (ix1 a))

section
variable (m : (ℓ : Loc Cert.KernelIdeal.nD Cert.KernelIdeal.τ Cert.KernelIdeal.sig) → Buf (Elt Ideal) ℓ)

attribute [local instance] Cert.Pre_finite.Value.facts

/-- Under the precondition the arguments are those reals. -/
theorem holds_of_pre (h : Cert.Pre_KernelIdeal_finite m) (c : Dev Cert.KernelIdeal.nD) : Cert.KernelIdeal.Value.HoldsAt m (argsOf m c) c := by
  obtain ⟨h0, h1, h2, h3, h4, h5, h6⟩ := Cert.Pre_finite.Value.all_real _ _ _ _ _ _ _ (congrFun (h c) _)
  exact ⟨fun _ _ _ => h0 _, fun _ _ => h1 _, fun _ _ => h2 _, fun _ _ _ => h3 _, fun _ _ => h4 _, fun _ _ => h5 _, fun _ => h6 _⟩

end

attribute [local instance] Cert.Kernel.Gen.facts Cert.KernelIdeal.Gen.facts Cert.ReferenceIdeal.Gen.facts Cert.Pre_finite.Value.facts

/-- The reference leaves its arguments unchanged and has no semaphores to leave. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2, sem_eq_zero_of_no_sems (by decide) r.2⟩)
    (Cert.ReferenceIdeal.Value.run_resT m g)

/-- Kernel and reference end with the same result. -/
theorem value : Cert.algebraic_KernelIdeal_ReferenceIdeal_pre_finite := by
  intro m g m' g' hpre hargs
  refine ⟨fun c => Cert.KernelIdeal.Value.outOf (argsOf m c),
    Cert.KernelIdeal.Value.run_out m g (argsOf m) (holds_of_pre m hpre), ?_⟩
  refine (θ_run Cert.ReferenceIdeal.defs _ _).mono (fun r h c => ⟨(h c).1.trans ?_, (h c).2⟩) (Cert.ReferenceIdeal.Value.run_resT m' g')
  obtain ⟨e0, e1, e2, e3, e4, e5, e6⟩ := hargs c
  have hA := holds_of_pre m hpre c
  funext i
  refine (congrArg _ (eq_ix3 i)).trans (Cert.ReferenceIdeal.Value.resT_of _ (argsOf m c)
    (fun b s k => (congrFun e0 _).trans (hA.hx b s k)) (fun a b => (congrFun e1 _).trans (hA.hd a b))
    (fun a b => (congrFun e2 _).trans (hA.hg a b)) (fun a b k => (congrFun e3 _).trans (hA.hw a b k))
    (fun a b => (congrFun e4 _).trans (hA.hb a b)) (fun a b => (congrFun e5 _).trans (hA.hu a b))
    (fun a => (congrFun e6 _).trans (hA.hm a)) (i 0) (i 1) (i 2))

/-- Every claim. -/
theorem claim : Cert.Claim :=
  ⟨Cert.Kernel.Gen.facts, Cert.KernelIdeal.Gen.facts, Cert.ReferenceIdeal.Gen.facts, Cert.Pre_finite.Value.facts,
    fun m g _ => Cert.Kernel.Gen.frame m g, fun m g _ => Cert.KernelIdeal.Gen.frame m g, fun m g _ => Cert.KernelIdeal.Gen.frame m g,
    fun m g _ => frame_reference m g, fun m g _ => frame_reference m g,
    IdealRules.named_const.statement _ _ _ _ _ rfl, value⟩

end Cert.Proof

end
